-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x2048x3584 : Shape := ⟨3, ![12, 2048, 3584]⟩
abbrev S3584x1152 : Shape := ⟨2, ![3584, 1152]⟩
abbrev S1152 : Shape := ⟨1, ![1152]⟩
abbrev S24576x3584 : Shape := ⟨2, ![24576, 3584]⟩
abbrev S1x1152 : Shape := ⟨2, ![1, 1152]⟩
abbrev S1152x3584 : Shape := ⟨2, ![1152, 3584]⟩
abbrev S256x1152 : Shape := ⟨2, ![256, 1152]⟩
abbrev S1152x256 : Shape := ⟨2, ![1152, 256]⟩
abbrev S24576x1152 : Shape := ⟨2, ![24576, 1152]⟩
abbrev S512x3584 : Shape := ⟨2, ![512, 3584]⟩
abbrev S512x1152 : Shape := ⟨2, ![512, 1152]⟩
abbrev S1152x512 : Shape := ⟨2, ![1152, 512]⟩
abbrev S1152x128 : Shape := ⟨2, ![1152, 128]⟩
abbrev S256x3584 : Shape := ⟨2, ![256, 3584]⟩
abbrev S512x256 : Shape := ⟨2, ![512, 256]⟩
abbrev S128x1152 : Shape := ⟨2, ![128, 1152]⟩
abbrev S12x2048x1152 : Shape := ⟨3, ![12, 2048, 1152]⟩

abbrev nBuf : Space → Nat
  | .hbm => 16
  | .vmem => 28
  | .smem => 0
  | _ => 0

abbrev bufTy : (tb : Table) → Fin (tcTables nBuf tb) → BufTy
  | .hbm, ⟨0, _⟩ => ⟨S12x2048x3584, .bf16⟩
  | .hbm, ⟨1, _⟩ => ⟨S3584x1152, .f32⟩
  | .hbm, ⟨2, _⟩ => ⟨S3584x1152, .i8⟩
  | .hbm, ⟨3, _⟩ => ⟨S1152, .f32⟩
  | .hbm, ⟨4, _⟩ => ⟨S3584x1152, .f32⟩
  | .hbm, ⟨5, _⟩ => ⟨S24576x3584, .bf16⟩
  | .hbm, ⟨6, _⟩ => ⟨S1x1152, .f32⟩
  | .hbm, ⟨7, _⟩ => ⟨S1152x3584, .bf16⟩
  | .hbm, ⟨8, _⟩ => ⟨S1x1152, .f32⟩
  | .hbm, ⟨9, _⟩ => ⟨S24576x1152, .bf16⟩
  | .hbm, ⟨10, _⟩ => ⟨S1152x3584, .f32⟩
  | .hbm, ⟨11, _⟩ => ⟨S1x1152, .f32⟩
  | .hbm, ⟨12, _⟩ => ⟨S3584x1152, .f32⟩
  | .hbm, ⟨13, _⟩ => ⟨S1152, .f32⟩
  | .hbm, ⟨14, _⟩ => ⟨S1152, .f32⟩
  | .hbm, ⟨15, _⟩ => ⟨S12x2048x1152, .bf16⟩
  | .local _ .vmem, ⟨0, _⟩ => ⟨S256x1152, .f32⟩
  | .local _ .vmem, ⟨1, _⟩ => ⟨S256x1152, .f32⟩
  | .local _ .vmem, ⟨2, _⟩ => ⟨S256x1152, .i8⟩
  | .local _ .vmem, ⟨3, _⟩ => ⟨S256x1152, .i8⟩
  | .local _ .vmem, ⟨4, _⟩ => ⟨S1x1152, .f32⟩
  | .local _ .vmem, ⟨5, _⟩ => ⟨S256x1152, .f32⟩
  | .local _ .vmem, ⟨6, _⟩ => ⟨S256x1152, .f32⟩
  | .local _ .vmem, ⟨7, _⟩ => ⟨S1152x256, .bf16⟩
  | .local _ .vmem, ⟨8, _⟩ => ⟨S1152x256, .bf16⟩
  | .local _ .vmem, ⟨9, _⟩ => ⟨S1x1152, .f32⟩
  | .local _ .vmem, ⟨10, _⟩ => ⟨S512x3584, .bf16⟩
  | .local _ .vmem, ⟨11, _⟩ => ⟨S512x3584, .bf16⟩
  | .local _ .vmem, ⟨12, _⟩ => ⟨S1152x3584, .bf16⟩
  | .local _ .vmem, ⟨13, _⟩ => ⟨S512x1152, .bf16⟩
  | .local _ .vmem, ⟨14, _⟩ => ⟨S512x1152, .bf16⟩
  | .local _ .vmem, ⟨15, _⟩ => ⟨S1152x3584, .f32⟩
  | .local _ .vmem, ⟨16, _⟩ => ⟨S1x1152, .f32⟩
  | .local _ .vmem, ⟨17, _⟩ => ⟨S1152x512, .bf16⟩
  | .local _ .vmem, ⟨18, _⟩ => ⟨S1152x128, .f32⟩
  | .local _ .vmem, ⟨19, _⟩ => ⟨S1152x256, .f32⟩
  | .local _ .vmem, ⟨20, _⟩ => ⟨S1152x256, .f32⟩
  | .local _ .vmem, ⟨21, _⟩ => ⟨S256x1152, .i8⟩
  | .local _ .vmem, ⟨22, _⟩ => ⟨S256x1152, .i8⟩
  | .local _ .vmem, ⟨23, _⟩ => ⟨S1x1152, .f32⟩
  | .local _ .vmem, ⟨24, _⟩ => ⟨S256x1152, .f32⟩
  | .local _ .vmem, ⟨25, _⟩ => ⟨S256x1152, .f32⟩
  | .local _ .vmem, ⟨26, _⟩ => ⟨S256x1152, .f32⟩
  | .local _ .vmem, ⟨27, _⟩ => ⟨S256x1152, .f32⟩
  | _, _ => ⟨S12x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1152x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![48], ![false]⟩

def k1_cond2 (i : grid1.Coords) : BitVec 1 :=
  let arg0 : BitVec 32 := BitVec.ofNat 32 (i 0).val
  let c47_i32 : BitVec 32 := 47#32
  let v161 : BitVec 1 := Scalar.cmpi .eq arg0 c47_i32
  let v162 : BitVec 32 := Scalar.extui v161
  let c0_i32_138 : BitVec 32 := 0#32
  let v163 : BitVec 1 := Scalar.cmpi .ne v162 c0_i32_138
  v163

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1152x3584 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1152 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1152x3584 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1152 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![14], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1152x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1152 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1152 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1152 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1152 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S12x2048x3584 : Shape := ⟨3, ![12, 2048, 3584]⟩
abbrev S3584x1152 : Shape := ⟨2, ![3584, 1152]⟩
abbrev S1152 : Shape := ⟨1, ![1152]⟩
abbrev S24576x3584 : Shape := ⟨2, ![24576, 3584]⟩
abbrev S1x1152 : Shape := ⟨2, ![1, 1152]⟩
abbrev S24576x1152 : Shape := ⟨2, ![24576, 1152]⟩
abbrev S12x2048x1152 : Shape := ⟨3, ![12, 2048, 1152]⟩

abbrev nBuf : Space → Nat
  | .hbm => 14
  | .vmem => 9
  | .smem => 0
  | _ => 0

abbrev bufTy : (tb : Table) → Fin (tcTables nBuf tb) → BufTy
  | .hbm, ⟨0, _⟩ => ⟨S12x2048x3584, .bf16⟩
  | .hbm, ⟨1, _⟩ => ⟨S3584x1152, .f32⟩
  | .hbm, ⟨2, _⟩ => ⟨S3584x1152, .i8⟩
  | .hbm, ⟨3, _⟩ => ⟨S1152, .f32⟩
  | .hbm, ⟨4, _⟩ => ⟨S3584x1152, .f32⟩
  | .hbm, ⟨5, _⟩ => ⟨S24576x3584, .bf16⟩
  | .hbm, ⟨6, _⟩ => ⟨S1x1152, .f32⟩
  | .hbm, ⟨7, _⟩ => ⟨S1x1152, .f32⟩
  | .hbm, ⟨8, _⟩ => ⟨S1x1152, .f32⟩
  | .hbm, ⟨9, _⟩ => ⟨S24576x1152, .bf16⟩
  | .hbm, ⟨10, _⟩ => ⟨S3584x1152, .f32⟩
  | .hbm, ⟨11, _⟩ => ⟨S1152, .f32⟩
  | .hbm, ⟨12, _⟩ => ⟨S1152, .f32⟩
  | .hbm, ⟨13, _⟩ => ⟨S12x2048x1152, .bf16⟩
  | .local _ .vmem, ⟨0, _⟩ => ⟨S24576x3584, .bf16⟩
  | .local _ .vmem, ⟨1, _⟩ => ⟨S3584x1152, .f32⟩
  | .local _ .vmem, ⟨2, _⟩ => ⟨S3584x1152, .i8⟩
  | .local _ .vmem, ⟨3, _⟩ => ⟨S1x1152, .f32⟩
  | .local _ .vmem, ⟨4, _⟩ => ⟨S3584x1152, .f32⟩
  | .local _ .vmem, ⟨5, _⟩ => ⟨S1x1152, .f32⟩
  | .local _ .vmem, ⟨6, _⟩ => ⟨S1x1152, .f32⟩
  | .local _ .vmem, ⟨7, _⟩ => ⟨S24576x1152, .bf16⟩
  | .local _ .vmem, ⟨8, _⟩ => ⟨S3584x1152, .f32⟩
  | _, _ => ⟨S12x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S24576x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x1152 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x1152 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3584x1152 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.Prep.lean ====
/- The first pallas_call (the quantised difference, transposed, and the regulariser): its run, at any contents of the arrays it is entered with. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

abbrev VO0_4 : View sig .tc .vmem S1152x256 .bf16 := (Memref.whole cc0_stg4_0 : Memref sig .tc .vmem S1152x256 .bf16).view
abbrev VO0_5 : View sig .tc .vmem S1x1152 .f32 := (Memref.whole cc0_stg5_0 : Memref sig .tc .vmem S1x1152 .f32).view
abbrev ms0_0 (t : Fin cfg0.N) : Memref sig .tc .vmem S256x1152 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1152 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1152 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1152 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1152x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1152 .f32 := win0_5.stage (cfg0.slots t 5)
abbrev hs0_5 (t : Fin cfg0.N) : (ms0_5 t).IsWhole := hstage0_5 ((cfg0.slots t 5).cast nbuf0_5)
set_option maxHeartbeats 1000000 in
noncomputable def kernelRun0_A (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : cond0_0 i)
    (x0 : Vec F S256x1152 .f32) (x1 : Vec F S256x1152 .i8) (x2 : Vec F S1x1152 .f32) (x3 : Vec F S256x1152 .f32) :
    Σ' (L4 : List (View.Piece (Elt F) S1152x256 .bf16)), { L5 : List (View.Piece (Elt F) S1x1152 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_prep i arg1 harg1 arg2 harg2 arg3 harg3 arg4 harg4 arg5 harg5 arg6 harg6) K } := by
  refine ⟨?_, ?_, fun E K => ?run⟩
  case run =>
    simp only [cc0_prep_eq_skeleton]; unfold cc0_prep_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

theorem cover0_A_4 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : cond0_0 i)
    (x0 : Vec F S256x1152 .f32) (x1 : Vec F S256x1152 .i8) (x2 : Vec F S1x1152 .f32) (x3 : Vec F S256x1152 .f32) (y : S1152x256.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S1152x256.size (by sl_kernel_rfl) y

def out0_A_4 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : cond0_0 i)
    (x0 : Vec F S256x1152 .f32) (x1 : Vec F S256x1152 .i8) (x2 : Vec F S1x1152 .f32) (x3 : Vec F S256x1152 .f32) : Vec F S1152x256 .bf16 :=
  VO0_4.read (Elt F) (VO0_4.writes (Elt F) VO0_4.junk (kernelRun0_A c i arg1 harg1 arg2 harg2 arg3 harg3 arg4 harg4 arg5 harg5 arg6 harg6 hc0 x0 x1 x2 x3).1)

theorem cover0_A_5 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : cond0_0 i)
    (x0 : Vec F S256x1152 .f32) (x1 : Vec F S256x1152 .i8) (x2 : Vec F S1x1152 .f32) (x3 : Vec F S256x1152 .f32) (y : S1x1152.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S1x1152.size (by sl_kernel_rfl) y

def out0_A_5 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : cond0_0 i)
    (x0 : Vec F S256x1152 .f32) (x1 : Vec F S256x1152 .i8) (x2 : Vec F S1x1152 .f32) (x3 : Vec F S256x1152 .f32) : Vec F S1x1152 .f32 :=
  VO0_5.read (Elt F) (VO0_5.writes (Elt F) VO0_5.junk (kernelRun0_A c i arg1 harg1 arg2 harg2 arg3 harg3 arg4 harg4 arg5 harg5 arg6 harg6 hc0 x0 x1 x2 x3).2.1)
set_option maxHeartbeats 1000000 in
noncomputable def kernelRun0_B (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : ¬cond0_0 i)
    (x0 : Vec F S256x1152 .f32) (x1 : Vec F S256x1152 .i8) (x2 : Vec F S1x1152 .f32) (x3 : Vec F S256x1152 .f32) (xo5 : Vec F S1x1152 .f32) :
    Σ' (L4 : List (View.Piece (Elt F) S1152x256 .bf16)), { L5 : List (View.Piece (Elt F) S1x1152 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_prep i arg1 harg1 arg2 harg2 arg3 harg3 arg4 harg4 arg5 harg5 arg6 harg6) K } := by
  refine ⟨?_, ?_, fun E K => ?run⟩
  case run =>
    simp only [cc0_prep_eq_skeleton]; unfold cc0_prep_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

theorem cover0_B_4 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : ¬cond0_0 i)
    (x0 : Vec F S256x1152 .f32) (x1 : Vec F S256x1152 .i8) (x2 : Vec F S1x1152 .f32) (x3 : Vec F S256x1152 .f32) (xo5 : Vec F S1x1152 .f32) (y : S1152x256.Idx) :
    ∃ pc ∈ (kernelRun0_B c i arg1 harg1 arg2 harg2 arg3 harg3 arg4 harg4 arg5 harg5 arg6 harg6 hc0 x0 x1 x2 x3 xo5).1, y ∈ pc.1.set :=
  View.cover_of_tiledL (kernelRun0_B c i arg1 harg1 arg2 harg2 arg3 harg3 arg4 harg4 arg5 harg5 arg6 harg6 hc0 x0 x1 x2 x3 xo5).1 S1152x256.size (by sl_kernel_rfl) y

def out0_B_4 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : ¬cond0_0 i)
    (x0 : Vec F S256x1152 .f32) (x1 : Vec F S256x1152 .i8) (x2 : Vec F S1x1152 .f32) (x3 : Vec F S256x1152 .f32) (xo5 : Vec F S1x1152 .f32) : Vec F S1152x256 .bf16 :=
  VO0_4.read (Elt F) (VO0_4.writes (Elt F) VO0_4.junk (kernelRun0_B c i arg1 harg1 arg2 harg2 arg3 harg3 arg4 harg4 arg5 harg5 arg6 harg6 hc0 x0 x1 x2 x3 xo5).1)

theorem cover0_B_5 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : ¬cond0_0 i)
    (x0 : Vec F S256x1152 .f32) (x1 : Vec F S256x1152 .i8) (x2 : Vec F S1x1152 .f32) (x3 : Vec F S256x1152 .f32) (xo5 : Vec F S1x1152 .f32) (y : S1x1152.Idx) :
    ∃ pc ∈ (kernelRun0_B c i arg1 harg1 arg2 harg2 arg3 harg3 arg4 harg4 arg5 harg5 arg6 harg6 hc0 x0 x1 x2 x3 xo5).2.1, y ∈ pc.1.set :=
  View.cover_of_tiledL (kernelRun0_B c i arg1 harg1 arg2 harg2 arg3 harg3 arg4 harg4 arg5 harg5 arg6 harg6 hc0 x0 x1 x2 x3 xo5).2.1 S1x1152.size (by sl_kernel_rfl) y

def out0_B_5 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : ¬cond0_0 i)
    (x0 : Vec F S256x1152 .f32) (x1 : Vec F S256x1152 .i8) (x2 : Vec F S1x1152 .f32) (x3 : Vec F S256x1152 .f32) (xo5 : Vec F S1x1152 .f32) : Vec F S1x1152 .f32 :=
  VO0_5.read (Elt F) (VO0_5.writes (Elt F) VO0_5.junk (kernelRun0_B c i arg1 harg1 arg2 harg2 arg3 harg3 arg4 harg4 arg5 harg5 arg6 harg6 hc0 x0 x1 x2 x3 xo5).2.1)

def outsAt0 (c : Dev nD) : (n : ℕ) → n < cfg0.N → Vec F S1152x256 .bf16 × Vec F S1x1152 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 14 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 14 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

theorem outsAt0_B (c : Dev nD) (t : Fin cfg0.N) (h0 : ¬t.val % 14 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_5_B (c : Dev nD) (t : Fin cfg0.N) (h0 : ¬t.val % 14 = 0) (d) :
    (dat0 V c).before 5 t d = (outsAt0 V c (t.val - 1) (Nat.lt_of_le_of_lt (Nat.sub_le _ _) t.isLt)).2 := by
  have hN : t.val < 14 := lt_of_lt_of_eq t.isLt (show cfg0.N = 14 from N_0)
  rw [Dat.before_out_kept _ 5 rfl t (by omega) (Bool.eq_false_iff.mpr fun h => by have := (flush0_5 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 14 := lt_of_lt_of_eq t.isLt (show cfg0.N = 14 from N_0)
  by_cases h0 : t.val % 14 = 0
  · rw [outsAt0_A V c t h0]
    unfold out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [outsAt0_B V c t h0]
    simp only [before0_5_B V c t h0]
    unfold out0_B_4 out0_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Run

end
-- ==== Proof.Kernel.MainRuns.lean ====
/- The second pallas_call (the error, its squares and the gradient of the weights): its windows, its conditions and its scratch. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 48 = 0 :=
  (fun t => by
    have ht : t.val < 48 := Nat.lt_of_lt_of_eq t.isLt N_1
    have e0 : (grid1.coords t 0).val = t.val / 1 % 48 := Pipeline.Grid.coords_val t 0 (by decide) rfl
    simp only [cond1_0, e0]
    word_cmp
   : ∀ t : Fin grid1.N, cond1_0 (grid1.coords t) ↔ t.val % 48 = 0)

abbrev cond1_1 (i : grid1.Coords) : Prop := k1_cond2 i = 1#1
theorem hcond1_1 : ∀ t : Fin cfg1.N, cond1_1 (grid1.coords t) ↔ t.val % 48 = 47 :=
  (fun t => by
    have ht : t.val < 48 := Nat.lt_of_lt_of_eq t.isLt N_1
    have e0 : (grid1.coords t 0).val = t.val / 1 % 48 := Pipeline.Grid.coords_val t 0 (by decide) rfl
    simp only [cond1_1, k1_cond2, e0]
    word_cmp
   : ∀ t : Fin grid1.N, cond1_1 (grid1.coords t) ↔ t.val % 48 = 47)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

abbrev VO1_2 : View sig .tc .vmem S512x1152 .bf16 := (Memref.whole cc1_stg2_0 : Memref sig .tc .vmem S512x1152 .bf16).view
abbrev VO1_3 : View sig .tc .vmem S1152x3584 .f32 := (Memref.whole cc1_stg3_0 : Memref sig .tc .vmem S1152x3584 .f32).view
abbrev VO1_4 : View sig .tc .vmem S1x1152 .f32 := (Memref.whole cc1_stg4_0 : Memref sig .tc .vmem S1x1152 .f32).view
abbrev ms1_0 (t : Fin cfg1.N) : Memref sig .tc .vmem S512x3584 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1152x3584 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1152 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1152x3584 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1152 .f32 := win1_4.stage (cfg1.slots t 4)
abbrev hs1_4 (t : Fin cfg1.N) : (ms1_4 t).IsWhole := hstage1_4 ((cfg1.slots t 4).cast nbuf1_4)
abbrev scM1_0 : Memref sig .tc .vmem S1152x512 .bf16 := Memref.whole cc1_scratch0
abbrev scM1_1 : Memref sig .tc .vmem S1152x128 .f32 := Memref.whole cc1_scratch1
abbrev VS1_1 : View sig .tc .vmem S1152x128 .f32 := scM1_1.view

/-- The scoped buffers of the other two calls, each at some contents, and the generator register at some state:
    what rides along, untouched, beside this call's own scratch. -/
def Rest1 (c : Dev nD) : sProp 𝕄 :=
  iprop(Pipeline.scopedRestBut (Ix := Unit) (Name := ℕ) (U := UR sig nD τ) (Lvl := ℕ) (Val := Elt F) spec1 c [cc1_scratch0, cc1_scratch1] ∗ (∃ r, prngReg c r))

/-- The class invariant with this call's scratch operands named. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)) ∗ Rest1 (F := F) c) := by
  have e : (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f))
        ∗ Pipeline.scopedRestBut (Ix := Unit) (Name := ℕ) (U := UR sig nD τ) (Lvl := ℕ) (Val := Elt F) spec1 c [cc1_scratch0, cc1_scratch1]) :=
    Pipeline.scopedRest_split_of_list spec1 c [cc1_scratch0, cc1_scratch1] (by decide) (by decide)
  unfold Pipeline.ΦA Rest1
  rw [e]
  simp only [scM1_0, scM1_1, owns_whole]
  exact BI.Entails.antisymm BI.sep_assoc BI.sep_assoc'

end Cert.Kernel.Run

end
-- ==== Proof.Kernel.MainRunA.lean ====
/- The second pallas_call (the error, its squares and the gradient of the weights): the body at the first point. -/
module

public import proofs.«01_k».proof.Proof.Kernel.MainRuns

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) :
    Σ' (L2 : List (View.Piece (Elt F) S512x1152 .bf16)), Σ' (L3 : List (View.Piece (Elt F) S1152x3584 .f32)), Σ' (L4 : List (View.Piece (Elt F) S1x1152 .f32)), Σ' (LS1 : List (View.Piece (Elt F) S1152x128 .f32)), { LT0 : List (View.Piece (Elt F) S1152x512 .bf16) //
      ∀ (xi4 : Vec F S1x1152 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc1_main i arg1 harg1 arg2 harg2 arg3 harg3 arg4 harg4 arg5 harg5 arg6 harg6 arg7 harg7) K } := by
  refine ⟨?_, ?_, [], ?_, ?_, fun xi4 E K => ?run⟩
  case run =>
    simp only [cc1_main_eq_skeleton]; unfold cc1_main_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    isplitl [HS0]; · iexists _; iexact HS0
    iexists _; iexact HS1

end Cert.Kernel.Run

end
-- ==== Proof.Kernel.MainRunB.lean ====
/- The second pallas_call (the error, its squares and the gradient of the weights): the body at a middle point. -/
module

public import proofs.«01_k».proof.Proof.Kernel.MainRunA

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) :
    Σ' (L2 : List (View.Piece (Elt F) S512x1152 .bf16)), Σ' (L3 : List (View.Piece (Elt F) S1152x3584 .f32)), Σ' (L4 : List (View.Piece (Elt F) S1x1152 .f32)), Σ' (LS1 : List (View.Piece (Elt F) S1152x128 .f32)), { LT0 : List (View.Piece (Elt F) S1152x512 .bf16) //
      ∀ (xi4 : Vec F S1x1152 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xi4 ∗ (∃ d, owns (c : Thread nD τ) arg6 fullShare d) ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc1_main i arg1 harg1 arg2 harg2 arg3 harg3 arg4 harg4 arg5 harg5 arg6 harg6 arg7 harg7) K } := by
  refine ⟨?_, ?_, [], ?_, ?_, fun xi4 E K => ?run⟩
  case run =>
    simp only [cc1_main_eq_skeleton]; unfold cc1_main_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%fs1, %hfs1, HS1⟩, Hk⟩
    obtain rfl := harg1.eq_unread hf0; obtain rfl := harg2.eq_unread hf1; obtain rfl := harg4.eq_unread hf3; obtain rfl := harg5.eq_unread hf4; obtain rfl := harg7.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    isplitl [HS0]; · iexists _; iexact HS0
    iexists _; iexact HS1

end Cert.Kernel.Run

end
-- ==== Proof.Kernel.MainRunC.lean ====
/- The second pallas_call (the error, its squares and the gradient of the weights): the body at the last point. -/
module

public import proofs.«01_k».proof.Proof.Kernel.MainRunB

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) :
    Σ' (L2 : List (View.Piece (Elt F) S512x1152 .bf16)), Σ' (L3 : List (View.Piece (Elt F) S1152x3584 .f32)), Σ' (L4 : List (View.Piece (Elt F) S1x1152 .f32)), Σ' (LS1 : List (View.Piece (Elt F) S1152x128 .f32)), { LT0 : List (View.Piece (Elt F) S1152x512 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ (∃ d, owns (c : Thread nD τ) arg5 fullShare d) ∗ (∃ d, owns (c : Thread nD τ) arg6 fullShare d) ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc1_main i arg1 harg1 arg2 harg2 arg3 harg3 arg4 harg4 arg5 harg5 arg6 harg6 arg7 harg7) K } := by
  refine ⟨?_, ?_, ?_, ?_, ?_, fun E K => ?run⟩
  case run =>
    simp only [cc1_main_eq_skeleton]; unfold cc1_main_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%d2, %f2, -, H2⟩, ⟨%f3, %hf3, H3⟩, ⟨%d4, %f4, -, H4⟩, ⟨%ds0, %fs0, -, HS0⟩, ⟨%fs1, %hfs1, HS1⟩, Hk⟩
    obtain rfl := harg1.eq_unread hf0; obtain rfl := harg2.eq_unread hf1; obtain rfl := harg4.eq_unread hf3; obtain rfl := harg7.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Run

end
-- ==== Proof.Kernel.Main.lean ====
/- The second pallas_call (the error, its squares and the gradient of the weights): what its outputs and its scratch hold after each point, and its run at any contents of the arrays it is entered with. -/
module

public import proofs.«01_k».proof.Proof.Kernel.MainRunC

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover1_A_2 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) (y : S512x1152.Idx) :
    ∃ pc ∈ (kernelRun1_A c i arg1 harg1 arg2 harg2 arg3 harg3 arg4 harg4 arg5 harg5 arg6 harg6 arg7 harg7 hc0 hc1 x0 x1).1, y ∈ pc.1.set :=
  View.cover_of_tiledL (kernelRun1_A c i arg1 harg1 arg2 harg2 arg3 harg3 arg4 harg4 arg5 harg5 arg6 harg6 arg7 harg7 hc0 hc1 x0 x1).1 S256x1152.size (by sl_kernel_rfl) y

def out1_A_2 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) : Vec F S512x1152 .bf16 :=
  VO1_2.read (Elt F) (VO1_2.writes (Elt F) VO1_2.junk (kernelRun1_A c i arg1 harg1 arg2 harg2 arg3 harg3 arg4 harg4 arg5 harg5 arg6 harg6 arg7 harg7 hc0 hc1 x0 x1).1)

theorem cover1_A_3 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) (y : S1152x3584.Idx) :
    ∃ pc ∈ (kernelRun1_A c i arg1 harg1 arg2 harg2 arg3 harg3 arg4 harg4 arg5 harg5 arg6 harg6 arg7 harg7 hc0 hc1 x0 x1).2.1, y ∈ pc.1.set :=
  View.cover_of_tiledBy (kernelRun1_A c i arg1 harg1 arg2 harg2 arg3 harg3 arg4 harg4 arg5 harg5 arg6 harg6 arg7 harg7 hc0 hc1 x0 x1).2.1 ![1152, 256] (by sl_kernel_rfl) y

def out1_A_3 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) : Vec F S1152x3584 .f32 :=
  VO1_3.read (Elt F) (VO1_3.writes (Elt F) VO1_3.junk (kernelRun1_A c i arg1 harg1 arg2 harg2 arg3 harg3 arg4 harg4 arg5 harg5 arg6 harg6 arg7 harg7 hc0 hc1 x0 x1).2.1)

def out1_A_4 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) : Vec F S1x1152 .f32 :=
  VO1_4.read (Elt F) (VO1_4.writes (Elt F) VO1_4.junk (kernelRun1_A c i arg1 harg1 arg2 harg2 arg3 harg3 arg4 harg4 arg5 harg5 arg6 harg6 arg7 harg7 hc0 hc1 x0 x1).2.2.1)

theorem scover1_A_1 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) (y : S1152x128.Idx) :
    ∃ pc ∈ (kernelRun1_A c i arg1 harg1 arg2 harg2 arg3 harg3 arg4 harg4 arg5 harg5 arg6 harg6 arg7 harg7 hc0 hc1 x0 x1).2.2.2.1, y ∈ pc.1.set :=
  View.cover_of_tiledL (kernelRun1_A c i arg1 harg1 arg2 harg2 arg3 harg3 arg4 harg4 arg5 harg5 arg6 harg6 arg7 harg7 hc0 hc1 x0 x1).2.2.2.1 S1152x128.size (by sl_kernel_rfl) y

def sout1_A_1 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) : Vec F S1152x128 .f32 :=
  VS1_1.read (Elt F) (VS1_1.writes (Elt F) VS1_1.junk (kernelRun1_A c i arg1 harg1 arg2 harg2 arg3 harg3 arg4 harg4 arg5 harg5 arg6 harg6 arg7 harg7 hc0 hc1 x0 x1).2.2.2.1)

theorem cover1_B_2 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) (y : S512x1152.Idx) :
    ∃ pc ∈ (kernelRun1_B c i arg1 harg1 arg2 harg2 arg3 harg3 arg4 harg4 arg5 harg5 arg6 harg6 arg7 harg7 hc0 hc1 x0 x1 xo3 xs1).1, y ∈ pc.1.set :=
  View.cover_of_tiledL (kernelRun1_B c i arg1 harg1 arg2 harg2 arg3 harg3 arg4 harg4 arg5 harg5 arg6 harg6 arg7 harg7 hc0 hc1 x0 x1 xo3 xs1).1 S256x1152.size (by sl_kernel_rfl) y

def out1_B_2 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) : Vec F S512x1152 .bf16 :=
  VO1_2.read (Elt F) (VO1_2.writes (Elt F) VO1_2.junk (kernelRun1_B c i arg1 harg1 arg2 harg2 arg3 harg3 arg4 harg4 arg5 harg5 arg6 harg6 arg7 harg7 hc0 hc1 x0 x1 xo3 xs1).1)

theorem cover1_B_3 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) (y : S1152x3584.Idx) :
    ∃ pc ∈ (kernelRun1_B c i arg1 harg1 arg2 harg2 arg3 harg3 arg4 harg4 arg5 harg5 arg6 harg6 arg7 harg7 hc0 hc1 x0 x1 xo3 xs1).2.1, y ∈ pc.1.set :=
  View.cover_of_tiledL (kernelRun1_B c i arg1 harg1 arg2 harg2 arg3 harg3 arg4 harg4 arg5 harg5 arg6 harg6 arg7 harg7 hc0 hc1 x0 x1 xo3 xs1).2.1 S1152x256.size (by sl_kernel_rfl) y

def out1_B_3 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) : Vec F S1152x3584 .f32 :=
  VO1_3.read (Elt F) (VO1_3.writes (Elt F) VO1_3.junk (kernelRun1_B c i arg1 harg1 arg2 harg2 arg3 harg3 arg4 harg4 arg5 harg5 arg6 harg6 arg7 harg7 hc0 hc1 x0 x1 xo3 xs1).2.1)

def out1_B_4 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) : Vec F S1x1152 .f32 :=
  VO1_4.read (Elt F) (VO1_4.writes (Elt F) VO1_4.junk (kernelRun1_B c i arg1 harg1 arg2 harg2 arg3 harg3 arg4 harg4 arg5 harg5 arg6 harg6 arg7 harg7 hc0 hc1 x0 x1 xo3 xs1).2.2.1)

theorem scover1_B_1 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) (y : S1152x128.Idx) :
    ∃ pc ∈ (kernelRun1_B c i arg1 harg1 arg2 harg2 arg3 harg3 arg4 harg4 arg5 harg5 arg6 harg6 arg7 harg7 hc0 hc1 x0 x1 xo3 xs1).2.2.2.1, y ∈ pc.1.set :=
  View.cover_of_tiledL (kernelRun1_B c i arg1 harg1 arg2 harg2 arg3 harg3 arg4 harg4 arg5 harg5 arg6 harg6 arg7 harg7 hc0 hc1 x0 x1 xo3 xs1).2.2.2.1 S1152x128.size (by sl_kernel_rfl) y

def sout1_B_1 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) : Vec F S1152x128 .f32 :=
  VS1_1.read (Elt F) (VS1_1.writes (Elt F) VS1_1.junk (kernelRun1_B c i arg1 harg1 arg2 harg2 arg3 harg3 arg4 harg4 arg5 harg5 arg6 harg6 arg7 harg7 hc0 hc1 x0 x1 xo3 xs1).2.2.2.1)

theorem cover1_C_2 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) (y : S512x1152.Idx) :
    ∃ pc ∈ (kernelRun1_C c i arg1 harg1 arg2 harg2 arg3 harg3 arg4 harg4 arg5 harg5 arg6 harg6 arg7 harg7 hc0 hc1 x0 x1 xo3 xs1).1, y ∈ pc.1.set :=
  View.cover_of_tiledL (kernelRun1_C c i arg1 harg1 arg2 harg2 arg3 harg3 arg4 harg4 arg5 harg5 arg6 harg6 arg7 harg7 hc0 hc1 x0 x1 xo3 xs1).1 S256x1152.size (by sl_kernel_rfl) y

def out1_C_2 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) : Vec F S512x1152 .bf16 :=
  VO1_2.read (Elt F) (VO1_2.writes (Elt F) VO1_2.junk (kernelRun1_C c i arg1 harg1 arg2 harg2 arg3 harg3 arg4 harg4 arg5 harg5 arg6 harg6 arg7 harg7 hc0 hc1 x0 x1 xo3 xs1).1)

theorem cover1_C_3 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) (y : S1152x3584.Idx) :
    ∃ pc ∈ (kernelRun1_C c i arg1 harg1 arg2 harg2 arg3 harg3 arg4 harg4 arg5 harg5 arg6 harg6 arg7 harg7 hc0 hc1 x0 x1 xo3 xs1).2.1, y ∈ pc.1.set :=
  View.cover_of_tiledL (kernelRun1_C c i arg1 harg1 arg2 harg2 arg3 harg3 arg4 harg4 arg5 harg5 arg6 harg6 arg7 harg7 hc0 hc1 x0 x1 xo3 xs1).2.1 S1152x256.size (by sl_kernel_rfl) y

def out1_C_3 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) : Vec F S1152x3584 .f32 :=
  VO1_3.read (Elt F) (VO1_3.writes (Elt F) VO1_3.junk (kernelRun1_C c i arg1 harg1 arg2 harg2 arg3 harg3 arg4 harg4 arg5 harg5 arg6 harg6 arg7 harg7 hc0 hc1 x0 x1 xo3 xs1).2.1)

theorem cover1_C_4 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) (y : S1x1152.Idx) :
    ∃ pc ∈ (kernelRun1_C c i arg1 harg1 arg2 harg2 arg3 harg3 arg4 harg4 arg5 harg5 arg6 harg6 arg7 harg7 hc0 hc1 x0 x1 xo3 xs1).2.2.1, y ∈ pc.1.set :=
  View.cover_of_tiledL (kernelRun1_C c i arg1 harg1 arg2 harg2 arg3 harg3 arg4 harg4 arg5 harg5 arg6 harg6 arg7 harg7 hc0 hc1 x0 x1 xo3 xs1).2.2.1 S1x1152.size (by sl_kernel_rfl) y

def out1_C_4 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) : Vec F S1x1152 .f32 :=
  VO1_4.read (Elt F) (VO1_4.writes (Elt F) VO1_4.junk (kernelRun1_C c i arg1 harg1 arg2 harg2 arg3 harg3 arg4 harg4 arg5 harg5 arg6 harg6 arg7 harg7 hc0 hc1 x0 x1 xo3 xs1).2.2.1)

theorem scover1_C_1 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) (y : S1152x128.Idx) :
    ∃ pc ∈ (kernelRun1_C c i arg1 harg1 arg2 harg2 arg3 harg3 arg4 harg4 arg5 harg5 arg6 harg6 arg7 harg7 hc0 hc1 x0 x1 xo3 xs1).2.2.2.1, y ∈ pc.1.set :=
  View.cover_of_tiledL (kernelRun1_C c i arg1 harg1 arg2 harg2 arg3 harg3 arg4 harg4 arg5 harg5 arg6 harg6 arg7 harg7 hc0 hc1 x0 x1 xo3 xs1).2.2.2.1 S1152x128.size (by sl_kernel_rfl) y

def sout1_C_1 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) : Vec F S1152x128 .f32 :=
  VS1_1.read (Elt F) (VS1_1.writes (Elt F) VS1_1.junk (kernelRun1_C c i arg1 harg1 arg2 harg2 arg3 harg3 arg4 harg4 arg5 harg5 arg6 harg6 arg7 harg7 hc0 hc1 x0 x1 xo3 xs1).2.2.2.1)

def outsAt1 (c : Dev nD) : (n : ℕ) → n < cfg1.N → Vec F S512x1152 .bf16 × Vec F S1152x3584 .f32 × Vec F S1x1152 .f32 × Vec F S1152x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 48 = 0 then
      if h1 : (n + 1) % 48 = 47 then
        False.elim (by have hN : n + 1 < 48 := lt_of_lt_of_eq hn (show cfg1.N = 48 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 48 = 47 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.2, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.2)

theorem outsAt1_A (c : Dev nD) (t : Fin cfg1.N) (h0 : t.val % 48 = 0) (h1 : ¬t.val % 48 = 47) :
    outsAt1 V c t.val t.isLt = (out1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t), out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 48 = 0) (h1 : ¬t.val % 48 = 47) :
    outsAt1 V c t.val t.isLt = (out1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2, out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 48 = 0) (h1 : t.val % 48 = 47) :
    outsAt1 V c t.val t.isLt = (out1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg1.N → sProp 𝕄
  | 0, _ => Pipeline.ΦA spec1 c
  | n + 1, hn => iprop(iprop((∃ d, owns (c : Thread nD τ) scM1_0 fullShare d) ∗ owns (c : Thread nD τ) scM1_1 fullShare ((outsAt1 V c n hn).2.2.2)) ∗ Rest1 (F := F) c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) scM1_0 fullShare d) ∗ owns (c : Thread nD τ) scM1_1 fullShare ((outsAt1 V c n hn).2.2.2)) ∗ Rest1 (F := F) c) := rfl

theorem PhiS_pos (c : Dev nD) (n : ℕ) (h : n ≤ cfg1.N) (hz : n ≠ 0) :
    PhiS V c n h = iprop(iprop((∃ d, owns (c : Thread nD τ) scM1_0 fullShare d) ∗ owns (c : Thread nD τ) scM1_1 fullShare ((outsAt1 V c (n - 1) (by omega)).2.2.2)) ∗ Rest1 (F := F) c) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
    | ⟨4, _⟩ => (outsAt1 V c t.val t.isLt).2.2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem after1_4 (c : Dev nD) (t : Fin cfg1.N) : (dat1 V c).after 4 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_3_B (c : Dev nD) (t : Fin cfg1.N) (h0 : ¬t.val % 48 = 0) (h1 : ¬t.val % 48 = 47) (d) :
    (dat1 V c).before 3 t d = (outsAt1 V c (t.val - 1) (Nat.lt_of_le_of_lt (Nat.sub_le _ _) t.isLt)).2.1 := by
  have hN : t.val < 48 := lt_of_lt_of_eq t.isLt (show cfg1.N = 48 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_3_C (c : Dev nD) (t : Fin cfg1.N) (h0 : ¬t.val % 48 = 0) (h1 : t.val % 48 = 47) (d) :
    (dat1 V c).before 3 t d = (outsAt1 V c (t.val - 1) (Nat.lt_of_le_of_lt (Nat.sub_le _ _) t.isLt)).2.1 := by
  have hN : t.val < 48 := lt_of_lt_of_eq t.isLt (show cfg1.N = 48 from N_1)
  rw [Dat.before_out_kept _ 3 rfl t (by omega) (Bool.eq_false_iff.mpr fun h => by have := (flush1_3 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 48 := lt_of_lt_of_eq t.isLt (show cfg1.N = 48 from N_1)
  by_cases h0 : t.val % 48 = 0
  · by_cases h1 : t.val % 48 = 47
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold out1_A_2 out1_A_3 sout1_A_1; (try dsimp only)
        iintro ⟨⟨⟨HS0, HS1⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t)).2.2.2.2.2 _ Set.univ _)
        isplitl [H0]; · iexact H0
        isplitl [H1]; · iexact H1
        isplitl [H2]; · iexists _; iexact H2
        isplitl [H3]; · iexists _; iexact H3
        isplitl [H4]; · iexact H4
        isplitl [HS0]; · iexact HS0
        isplitl [HS1]; · iexact HS1
        iintro ⟨H0, H1, ⟨%e2, H2⟩, ⟨%e3, H3⟩, H4, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover1_A_1 c _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover1_A_2 c _ _ _ _ _ _ _ _ _ _ _ _ _ _ _ _ _ _ _)
        isplitl [H3]
        · unfold owns; iexists _; isplitr
          swap; · iexact H3
          ipureintro; exact View.read_writes_of_cover _ _ _ _ _ (cover1_A_3 c _ _ _ _ _ _ _ _ _ _ _ _ _ _ _ _ _ _ _)
        iexists _; iexact H4
      · exfalso; have hN : t.val < 48 := lt_of_lt_of_eq t.isLt (show cfg1.N = 48 from N_1); omega
  · by_cases h1 : t.val % 48 = 47
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4_C t (fun h => h0 ((hcond1_0 t).mp h)) ((hcond1_1 t).mpr h1)], after1_4]
      by_cases hz : t.val = 0
      · exfalso; have hN : t.val < 48 := lt_of_lt_of_eq t.isLt (show cfg1.N = 48 from N_1); omega
      · rw [PhiS_castSucc V c t, PhiS_pos V c _ _ hz]
        rw [outsAt1_C V c t h0 h1]
        simp only [before1_3_C V c t h0 h1]
        unfold out1_C_2 out1_C_3 out1_C_4 sout1_C_1; (try dsimp only)
        iintro ⟨⟨⟨HS0, HS1⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) _ _).2.2.2.2.2 Set.univ _)
        isplitl [H0]; · iexact H0
        isplitl [H1]; · iexact H1
        isplitl [H2]; · iexists _; iexact H2
        isplitl [H3]; · iexact H3
        isplitl [H4]; · iexists _; iexact H4
        isplitl [HS0]; · iexact HS0
        isplitl [HS1]; · iexact HS1
        iintro ⟨H0, H1, ⟨%e2, H2⟩, ⟨%e3, H3⟩, ⟨%e4, H4⟩, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover1_C_1 c _ _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover1_C_2 c _ _ _ _ _ _ _ _ _ _ _ _ _ _ _ _ _ _ _ _ _)
        isplitl [H3]
        · unfold owns; iexists _; isplitr
          swap; · iexact H3
          ipureintro; exact View.read_writes_of_cover _ _ _ _ _ (cover1_C_3 c _ _ _ _ _ _ _ _ _ _ _ _ _ _ _ _ _ _ _ _ _)
        unfold owns; iexists _; isplitr
        swap; · iexact H4
        ipureintro; exact View.read_writes_of_cover _ _ _ _ _ (cover1_C_4 c _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      by_cases hz : t.val = 0
      · exfalso; have hN : t.val < 48 := lt_of_lt_of_eq t.isLt (show cfg1.N = 48 from N_1); omega
      · rw [PhiS_castSucc V c t, PhiS_pos V c _ _ hz]
        rw [outsAt1_B V c t h0 h1]
        simp only [before1_3_B V c t h0 h1]
        unfold out1_B_2 out1_B_3 sout1_B_1; (try dsimp only)
        iintro ⟨⟨⟨HS0, HS1⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) _ _).2.2.2.2.2 _ Set.univ _)
        isplitl [H0]; · iexact H0
        isplitl [H1]; · iexact H1
        isplitl [H2]; · iexists _; iexact H2
        isplitl [H3]; · iexact H3
        isplitl [H4]; · iexact H4
        isplitl [HS0]; · iexact HS0
        isplitl [HS1]; · iexact HS1
        iintro ⟨H0, H1, ⟨%e2, H2⟩, ⟨%e3, H3⟩, H4, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover1_B_1 c _ _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover1_B_2 c _ _ _ _ _ _ _ _ _ _ _ _ _ _ _ _ _ _ _ _ _)
        isplitl [H3]
        · unfold owns; iexists _; isplitr
          swap; · iexact H3
          ipureintro; exact View.read_writes_of_cover _ _ _ _ _ (cover1_B_3 c _ _ _ _ _ _ _ _ _ _ _ _ _ _ _ _ _ _ _ _ _)
        iexists _; iexact H4

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HS1⟩, Hg⟩
  isplitl [HS0 HS1]
  · isplitl [HS0]
    · iexact HS0
    iexists _; iexact HS1
  iexact Hg

theorem hout (c : Dev nD) : (dat1 V c).Φ (Fin.last cfg1.N) ⊢ Pipeline.ΦA spec1 c :=
  Phi_out V c _ (by rw [Fin.val_last]; have : cfg1.N = 48 := N_1; omega)

end Cert.Kernel.Run

end
-- ==== Proof.Kernel.Dv.lean ====
/- The third pallas_call (the gradient of the rounding variables): its run, at any contents of the arrays it is entered with. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S256x1152 := Rect.unit (s := S256x1152) ![0, 0] S256x1152.size inb_S256x1152_S256x1152_0_0
abbrev r2_1 : Rect S1152x256 := Rect.unit (s := S1152x256) ![0, 0] S1152x256.size inb_S1152x256_S1152x256_0_0
abbrev r2_2 : Rect S1x1152 := Rect.unit (s := S1x1152) ![0, 0] S1x1152.size inb_S1x1152_S1x1152_0_0

def out2_4 (x0 : Vec F S1152x256 .f32) (x1 : Vec F S256x1152 .i8) (x2 : Vec F S1x1152 .f32) (x3 : Vec F S256x1152 .f32) : Vec F S256x1152 .f32 :=
  View.canon [⟨r2_0, k2_pay1 (k2_pay5 (View.ld x3 r2_0) (View.ld x1 r2_0)) (k2_pay6 (View.ld x3 r2_0)) (k2_pay7 (View.ld x3 r2_0)) (k2_pay8 (View.ld x0 r2_1)) (View.ld x2 r2_2)⟩]

theorem cover2_4 (p0 : Vec F S256x1152 .f32) (y : S256x1152.Idx) :
    ∃ pc ∈ ([⟨r2_0, p0⟩] : List (View.Piece (Elt F) S256x1152 .f32)), y ∈ pc.1.set :=
  View.cover_of_tiled [⟨r2_0, p0⟩] S256x1152.size (by rfl) y

set_option maxHeartbeats 1000000 in
theorem sound_kernel2 (c : Dev nD) (E : Set ℕ) (i : grid2.Coords) (arg1 : Memref sig .tc .vmem S1152x256 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S256x1152 .f32) (harg5 : arg5.IsWhole)
    (x0 : Vec F S1152x256 .f32) (x1 : Vec F S256x1152 .i8) (x2 : Vec F S1x1152 .f32) (x3 : Vec F S256x1152 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2_dv i arg1 harg1 arg2 harg2 arg3 harg3 arg4 harg4 arg5 harg5) K := by
  simp only [cc2_dv_eq_skeleton]; unfold cc2_dv_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Kernel.Run

end
-- ==== Proof.Kernel.Whole.lean ====
/- The whole program: the buffers' contents at every boundary between its host operations and its three pallas_calls, and its run. -/
module

public import proofs.«01_k».proof.Proof.Kernel.Prep
public import proofs.«01_k».proof.Proof.Kernel.Main
public import proofs.«01_k».proof.Proof.Kernel.Dv
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v5, main_v6, main_v7]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps3 (W4 m ρ c)
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin (V2 m ρ) c
    unfold Pipeline.ΦA at h
    rw [show (pdats m ρ 1 c).Φ 0 = (dat1 (V2 m ρ) c).Φ 0 from rfl]
    iintro ⟨Hp, -, Hr⟩
    iapply h
    isplitl [Hr]; · iexact Hr
    iexact Hp
  hout c := by
    have h := hout (V2 m ρ) c
    unfold Pipeline.ΦA at h
    rw [Pipeline.ownSems0_none, show (pdats m ρ 1 c).Φ (Fin.last _) = (dat1 (V2 m ρ) c).Φ (Fin.last cfg1.N) from rfl]
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every unscoped buffer ends at the last boundary's contents, and every counter at zero. -/
theorem run_all : θ_run defs (onTc (τ := τ) (main (F := F))) ⟨m, fun _ => 0, ρ⟩ (fun r =>
      (∀ c : Dev nD, ∀ b ∈ Pipeline.ucRefs τ sig, r.2.mem (c, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨(fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c)⟩), h.2⟩) (run_all m ρ)

end Cert.Kernel.Run

end
-- ==== Proof.KernelIdeal.Prep.lean ====
/- The first pallas_call (the quantised difference, transposed, and the regulariser): its run, at any contents of the arrays it is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

abbrev VO0_4 : View sig .tc .vmem S1152x256 .bf16 := (Memref.whole cc0_stg4_0 : Memref sig .tc .vmem S1152x256 .bf16).view
abbrev VO0_5 : View sig .tc .vmem S1x1152 .f32 := (Memref.whole cc0_stg5_0 : Memref sig .tc .vmem S1x1152 .f32).view
abbrev ms0_0 (t : Fin cfg0.N) : Memref sig .tc .vmem S256x1152 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1152 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1152 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1152 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1152x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1152 .f32 := win0_5.stage (cfg0.slots t 5)
abbrev hs0_5 (t : Fin cfg0.N) : (ms0_5 t).IsWhole := hstage0_5 ((cfg0.slots t 5).cast nbuf0_5)
set_option maxHeartbeats 1000000 in
noncomputable def kernelRun0_A (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : cond0_0 i)
    (x0 : Vec F S256x1152 .f32) (x1 : Vec F S256x1152 .i8) (x2 : Vec F S1x1152 .f32) (x3 : Vec F S256x1152 .f32) :
    Σ' (L4 : List (View.Piece (Elt F) S1152x256 .bf16)), { L5 : List (View.Piece (Elt F) S1x1152 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_prep i arg1 harg1 arg2 harg2 arg3 harg3 arg4 harg4 arg5 harg5 arg6 harg6) K } := by
  refine ⟨?_, ?_, fun E K => ?run⟩
  case run =>
    simp only [cc0_prep_eq_skeleton]; unfold cc0_prep_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

theorem cover0_A_4 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : cond0_0 i)
    (x0 : Vec F S256x1152 .f32) (x1 : Vec F S256x1152 .i8) (x2 : Vec F S1x1152 .f32) (x3 : Vec F S256x1152 .f32) (y : S1152x256.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S1152x256.size (by sl_kernel_rfl) y

def out0_A_4 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : cond0_0 i)
    (x0 : Vec F S256x1152 .f32) (x1 : Vec F S256x1152 .i8) (x2 : Vec F S1x1152 .f32) (x3 : Vec F S256x1152 .f32) : Vec F S1152x256 .bf16 :=
  VO0_4.read (Elt F) (VO0_4.writes (Elt F) VO0_4.junk (kernelRun0_A c i arg1 harg1 arg2 harg2 arg3 harg3 arg4 harg4 arg5 harg5 arg6 harg6 hc0 x0 x1 x2 x3).1)

theorem cover0_A_5 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : cond0_0 i)
    (x0 : Vec F S256x1152 .f32) (x1 : Vec F S256x1152 .i8) (x2 : Vec F S1x1152 .f32) (x3 : Vec F S256x1152 .f32) (y : S1x1152.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S1x1152.size (by sl_kernel_rfl) y

def out0_A_5 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : cond0_0 i)
    (x0 : Vec F S256x1152 .f32) (x1 : Vec F S256x1152 .i8) (x2 : Vec F S1x1152 .f32) (x3 : Vec F S256x1152 .f32) : Vec F S1x1152 .f32 :=
  VO0_5.read (Elt F) (VO0_5.writes (Elt F) VO0_5.junk (kernelRun0_A c i arg1 harg1 arg2 harg2 arg3 harg3 arg4 harg4 arg5 harg5 arg6 harg6 hc0 x0 x1 x2 x3).2.1)
set_option maxHeartbeats 1000000 in
noncomputable def kernelRun0_B (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : ¬cond0_0 i)
    (x0 : Vec F S256x1152 .f32) (x1 : Vec F S256x1152 .i8) (x2 : Vec F S1x1152 .f32) (x3 : Vec F S256x1152 .f32) (xo5 : Vec F S1x1152 .f32) :
    Σ' (L4 : List (View.Piece (Elt F) S1152x256 .bf16)), { L5 : List (View.Piece (Elt F) S1x1152 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_prep i arg1 harg1 arg2 harg2 arg3 harg3 arg4 harg4 arg5 harg5 arg6 harg6) K } := by
  refine ⟨?_, ?_, fun E K => ?run⟩
  case run =>
    simp only [cc0_prep_eq_skeleton]; unfold cc0_prep_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

theorem cover0_B_4 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : ¬cond0_0 i)
    (x0 : Vec F S256x1152 .f32) (x1 : Vec F S256x1152 .i8) (x2 : Vec F S1x1152 .f32) (x3 : Vec F S256x1152 .f32) (xo5 : Vec F S1x1152 .f32) (y : S1152x256.Idx) :
    ∃ pc ∈ (kernelRun0_B c i arg1 harg1 arg2 harg2 arg3 harg3 arg4 harg4 arg5 harg5 arg6 harg6 hc0 x0 x1 x2 x3 xo5).1, y ∈ pc.1.set :=
  View.cover_of_tiledL (kernelRun0_B c i arg1 harg1 arg2 harg2 arg3 harg3 arg4 harg4 arg5 harg5 arg6 harg6 hc0 x0 x1 x2 x3 xo5).1 S1152x256.size (by sl_kernel_rfl) y

def out0_B_4 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : ¬cond0_0 i)
    (x0 : Vec F S256x1152 .f32) (x1 : Vec F S256x1152 .i8) (x2 : Vec F S1x1152 .f32) (x3 : Vec F S256x1152 .f32) (xo5 : Vec F S1x1152 .f32) : Vec F S1152x256 .bf16 :=
  VO0_4.read (Elt F) (VO0_4.writes (Elt F) VO0_4.junk (kernelRun0_B c i arg1 harg1 arg2 harg2 arg3 harg3 arg4 harg4 arg5 harg5 arg6 harg6 hc0 x0 x1 x2 x3 xo5).1)

theorem cover0_B_5 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : ¬cond0_0 i)
    (x0 : Vec F S256x1152 .f32) (x1 : Vec F S256x1152 .i8) (x2 : Vec F S1x1152 .f32) (x3 : Vec F S256x1152 .f32) (xo5 : Vec F S1x1152 .f32) (y : S1x1152.Idx) :
    ∃ pc ∈ (kernelRun0_B c i arg1 harg1 arg2 harg2 arg3 harg3 arg4 harg4 arg5 harg5 arg6 harg6 hc0 x0 x1 x2 x3 xo5).2.1, y ∈ pc.1.set :=
  View.cover_of_tiledL (kernelRun0_B c i arg1 harg1 arg2 harg2 arg3 harg3 arg4 harg4 arg5 harg5 arg6 harg6 hc0 x0 x1 x2 x3 xo5).2.1 S1x1152.size (by sl_kernel_rfl) y

def out0_B_5 (c : Dev nD) (i : grid0.Coords) (arg1 : Memref sig .tc .vmem S256x1152 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S1152x256 .bf16) (harg5 : arg5.IsWhole) (arg6 : Memref sig .tc .vmem S1x1152 .f32) (harg6 : arg6.IsWhole) (hc0 : ¬cond0_0 i)
    (x0 : Vec F S256x1152 .f32) (x1 : Vec F S256x1152 .i8) (x2 : Vec F S1x1152 .f32) (x3 : Vec F S256x1152 .f32) (xo5 : Vec F S1x1152 .f32) : Vec F S1x1152 .f32 :=
  VO0_5.read (Elt F) (VO0_5.writes (Elt F) VO0_5.junk (kernelRun0_B c i arg1 harg1 arg2 harg2 arg3 harg3 arg4 harg4 arg5 harg5 arg6 harg6 hc0 x0 x1 x2 x3 xo5).2.1)

def outsAt0 (c : Dev nD) : (n : ℕ) → n < cfg0.N → Vec F S1152x256 .bf16 × Vec F S1x1152 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 14 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 14 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

theorem outsAt0_B (c : Dev nD) (t : Fin cfg0.N) (h0 : ¬t.val % 14 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_5_B (c : Dev nD) (t : Fin cfg0.N) (h0 : ¬t.val % 14 = 0) (d) :
    (dat0 V c).before 5 t d = (outsAt0 V c (t.val - 1) (Nat.lt_of_le_of_lt (Nat.sub_le _ _) t.isLt)).2 := by
  have hN : t.val < 14 := lt_of_lt_of_eq t.isLt (show cfg0.N = 14 from N_0)
  rw [Dat.before_out_kept _ 5 rfl t (by omega) (Bool.eq_false_iff.mpr fun h => by have := (flush0_5 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 14 := lt_of_lt_of_eq t.isLt (show cfg0.N = 14 from N_0)
  by_cases h0 : t.val % 14 = 0
  · rw [outsAt0_A V c t h0]
    unfold out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk0 V c 0 t) (iblk0 V c 1 t) (iblk0 V c 2 t) (iblk0 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _)
  · rw [outsAt0_B V c t h0]
    simp only [before0_5_B V c t h0]
    unfold out0_B_4 out0_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk0 V c 0 t) (iblk0 V c 1 t) (iblk0 V c 2 t) (iblk0 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdeal.MainRuns.lean ====
/- The second pallas_call (the error, its squares and the gradient of the weights): its windows, its conditions and its scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 48 = 0 :=
  (fun t => by
    have ht : t.val < 48 := Nat.lt_of_lt_of_eq t.isLt N_1
    have e0 : (grid1.coords t 0).val = t.val / 1 % 48 := Pipeline.Grid.coords_val t 0 (by decide) rfl
    simp only [cond1_0, e0]
    word_cmp
   : ∀ t : Fin grid1.N, cond1_0 (grid1.coords t) ↔ t.val % 48 = 0)

abbrev cond1_1 (i : grid1.Coords) : Prop := k1_cond2 i = 1#1
theorem hcond1_1 : ∀ t : Fin cfg1.N, cond1_1 (grid1.coords t) ↔ t.val % 48 = 47 :=
  (fun t => by
    have ht : t.val < 48 := Nat.lt_of_lt_of_eq t.isLt N_1
    have e0 : (grid1.coords t 0).val = t.val / 1 % 48 := Pipeline.Grid.coords_val t 0 (by decide) rfl
    simp only [cond1_1, k1_cond2, e0]
    word_cmp
   : ∀ t : Fin grid1.N, cond1_1 (grid1.coords t) ↔ t.val % 48 = 47)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
theorem liveAt1_4_C : ∀ t : Fin cfg1.N, ¬cond1_0 (grid1.coords t) → cond1_1 (grid1.coords t) → cfg1.idle 4 (grid1.coords t) = false := by decide +kernel

abbrev VO1_2 : View sig .tc .vmem S512x1152 .bf16 := (Memref.whole cc1_stg2_0 : Memref sig .tc .vmem S512x1152 .bf16).view
abbrev VO1_3 : View sig .tc .vmem S1152x3584 .f32 := (Memref.whole cc1_stg3_0 : Memref sig .tc .vmem S1152x3584 .f32).view
abbrev VO1_4 : View sig .tc .vmem S1x1152 .f32 := (Memref.whole cc1_stg4_0 : Memref sig .tc .vmem S1x1152 .f32).view
abbrev ms1_0 (t : Fin cfg1.N) : Memref sig .tc .vmem S512x3584 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1152x3584 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1152 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1152x3584 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1152 .f32 := win1_4.stage (cfg1.slots t 4)
abbrev hs1_4 (t : Fin cfg1.N) : (ms1_4 t).IsWhole := hstage1_4 ((cfg1.slots t 4).cast nbuf1_4)
abbrev scM1_0 : Memref sig .tc .vmem S1152x512 .bf16 := Memref.whole cc1_scratch0
abbrev scM1_1 : Memref sig .tc .vmem S1152x128 .f32 := Memref.whole cc1_scratch1
abbrev VS1_1 : View sig .tc .vmem S1152x128 .f32 := scM1_1.view

/-- The scoped buffers of the other two calls, each at some contents, and the generator register at some state:
    what rides along, untouched, beside this call's own scratch. -/
def Rest1 (c : Dev nD) : sProp 𝕄 :=
  iprop(Pipeline.scopedRestBut (Ix := Unit) (Name := ℕ) (U := UR sig nD τ) (Lvl := ℕ) (Val := Elt F) spec1 c [cc1_scratch0, cc1_scratch1] ∗ (∃ r, prngReg c r))

/-- The class invariant with this call's scratch operands named. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)) ∗ Rest1 (F := F) c) := by
  have e : (Pipeline.scopedRest (Ix := Unit) (Name := ℕ) (U := UR sig nD τ) (Lvl := ℕ) (Val := Elt F) spec1 c : sProp 𝕄)
      = iprop(((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f))
        ∗ Pipeline.scopedRestBut (Ix := Unit) (Name := ℕ) (U := UR sig nD τ) (Lvl := ℕ) (Val := Elt F) spec1 c [cc1_scratch0, cc1_scratch1]) :=
    Pipeline.scopedRest_split_of_list spec1 c [cc1_scratch0, cc1_scratch1] (by decide) (by decide)
  unfold Pipeline.ΦA Rest1
  rw [e]
  simp only [scM1_0, scM1_1, owns_whole]
  exact BI.Entails.antisymm BI.sep_assoc BI.sep_assoc'

end Cert.KernelIdeal.Run

end
-- ==== Proof.KernelIdeal.MainRunA.lean ====
/- The second pallas_call (the error, its squares and the gradient of the weights): the body at the first point. -/
module

public import proofs.«01_k».proof.Proof.KernelIdeal.MainRuns

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) :
    Σ' (L2 : List (View.Piece (Elt F) S512x1152 .bf16)), Σ' (L3 : List (View.Piece (Elt F) S1152x3584 .f32)), Σ' (L4 : List (View.Piece (Elt F) S1x1152 .f32)), Σ' (LS1 : List (View.Piece (Elt F) S1152x128 .f32)), { LT0 : List (View.Piece (Elt F) S1152x512 .bf16) //
      ∀ (xi4 : Vec F S1x1152 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc1_main i arg1 harg1 arg2 harg2 arg3 harg3 arg4 harg4 arg5 harg5 arg6 harg6 arg7 harg7) K } := by
  refine ⟨?_, ?_, [], ?_, ?_, fun xi4 E K => ?run⟩
  case run =>
    simp only [cc1_main_eq_skeleton]; unfold cc1_main_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%ds0, %fs0, -, HS0⟩, ⟨%ds1, %fs1, -, HS1⟩, Hk⟩
    obtain rfl := harg1.eq_unread hf0; obtain rfl := harg2.eq_unread hf1; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    isplitl [HS0]; · iexists _; iexact HS0
    iexists _; iexact HS1

end Cert.KernelIdeal.Run

end
-- ==== Proof.KernelIdeal.MainRunB.lean ====
/- The second pallas_call (the error, its squares and the gradient of the weights): the body at a middle point. -/
module

public import proofs.«01_k».proof.Proof.KernelIdeal.MainRunA

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) :
    Σ' (L2 : List (View.Piece (Elt F) S512x1152 .bf16)), Σ' (L3 : List (View.Piece (Elt F) S1152x3584 .f32)), Σ' (L4 : List (View.Piece (Elt F) S1x1152 .f32)), Σ' (LS1 : List (View.Piece (Elt F) S1152x128 .f32)), { LT0 : List (View.Piece (Elt F) S1152x512 .bf16) //
      ∀ (xi4 : Vec F S1x1152 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ owns (c : Thread nD τ) arg5 fullShare xi4 ∗ (∃ d, owns (c : Thread nD τ) arg6 fullShare d) ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc1_main i arg1 harg1 arg2 harg2 arg3 harg3 arg4 harg4 arg5 harg5 arg6 harg6 arg7 harg7) K } := by
  refine ⟨?_, ?_, [], ?_, ?_, fun xi4 E K => ?run⟩
  case run =>
    simp only [cc1_main_eq_skeleton]; unfold cc1_main_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%fs1, %hfs1, HS1⟩, Hk⟩
    obtain rfl := harg1.eq_unread hf0; obtain rfl := harg2.eq_unread hf1; obtain rfl := harg4.eq_unread hf3; obtain rfl := harg5.eq_unread hf4; obtain rfl := harg7.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    isplitl [HS0]; · iexists _; iexact HS0
    iexists _; iexact HS1

end Cert.KernelIdeal.Run

end
-- ==== Proof.KernelIdeal.MainRunC.lean ====
/- The second pallas_call (the error, its squares and the gradient of the weights): the body at the last point. -/
module

public import proofs.«01_k».proof.Proof.KernelIdeal.MainRunB

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) :
    Σ' (L2 : List (View.Piece (Elt F) S512x1152 .bf16)), Σ' (L3 : List (View.Piece (Elt F) S1152x3584 .f32)), Σ' (L4 : List (View.Piece (Elt F) S1x1152 .f32)), Σ' (LS1 : List (View.Piece (Elt F) S1152x128 .f32)), { LT0 : List (View.Piece (Elt F) S1152x512 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3 ∗ (∃ d, owns (c : Thread nD τ) arg5 fullShare d) ∗ (∃ d, owns (c : Thread nD τ) arg6 fullShare d) ∗ owns (c : Thread nD τ) arg7 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LT0) ∗ (∃ f, arg7.view.loc (c : Thread nD τ) ↦[arg7.view.set]{fullShare} arg7.view.writes (Elt F) f LS1)) -∗ K ⟨⟩))
          ⊢ wp frame (wpE (defs₀ (F := F)) Variants.none c none) E (cc1_main i arg1 harg1 arg2 harg2 arg3 harg3 arg4 harg4 arg5 harg5 arg6 harg6 arg7 harg7) K } := by
  refine ⟨?_, ?_, ?_, ?_, ?_, fun E K => ?run⟩
  case run =>
    simp only [cc1_main_eq_skeleton]; unfold cc1_main_skel
    simp only [k1_part1_eq_skeleton, k1_part2_eq_skeleton, k1_part3_eq_skeleton, k1_part4_eq_skeleton, k1_part5_eq_skeleton]
    unfold owns
    iintro ⟨⟨%f0, %hf0, H0⟩, ⟨%f1, %hf1, H1⟩, ⟨%d2, %f2, -, H2⟩, ⟨%f3, %hf3, H3⟩, ⟨%d4, %f4, -, H4⟩, ⟨%ds0, %fs0, -, HS0⟩, ⟨%fs1, %hfs1, HS1⟩, Hk⟩
    obtain rfl := harg1.eq_unread hf0; obtain rfl := harg2.eq_unread hf1; obtain rfl := harg4.eq_unread hf3; obtain rfl := harg7.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Run

end
-- ==== Proof.KernelIdeal.Main.lean ====
/- The second pallas_call (the error, its squares and the gradient of the weights): what its outputs and its scratch hold after each point, and its run at any contents of the arrays it is entered with. -/
module

public import proofs.«01_k».proof.Proof.KernelIdeal.MainRunC

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover1_A_2 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) (y : S512x1152.Idx) :
    ∃ pc ∈ (kernelRun1_A c i arg1 harg1 arg2 harg2 arg3 harg3 arg4 harg4 arg5 harg5 arg6 harg6 arg7 harg7 hc0 hc1 x0 x1).1, y ∈ pc.1.set :=
  View.cover_of_tiledL (kernelRun1_A c i arg1 harg1 arg2 harg2 arg3 harg3 arg4 harg4 arg5 harg5 arg6 harg6 arg7 harg7 hc0 hc1 x0 x1).1 S256x1152.size (by sl_kernel_rfl) y

def out1_A_2 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) : Vec F S512x1152 .bf16 :=
  VO1_2.read (Elt F) (VO1_2.writes (Elt F) VO1_2.junk (kernelRun1_A c i arg1 harg1 arg2 harg2 arg3 harg3 arg4 harg4 arg5 harg5 arg6 harg6 arg7 harg7 hc0 hc1 x0 x1).1)

theorem cover1_A_3 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) (y : S1152x3584.Idx) :
    ∃ pc ∈ (kernelRun1_A c i arg1 harg1 arg2 harg2 arg3 harg3 arg4 harg4 arg5 harg5 arg6 harg6 arg7 harg7 hc0 hc1 x0 x1).2.1, y ∈ pc.1.set :=
  View.cover_of_tiledBy (kernelRun1_A c i arg1 harg1 arg2 harg2 arg3 harg3 arg4 harg4 arg5 harg5 arg6 harg6 arg7 harg7 hc0 hc1 x0 x1).2.1 ![1152, 256] (by sl_kernel_rfl) y

def out1_A_3 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) : Vec F S1152x3584 .f32 :=
  VO1_3.read (Elt F) (VO1_3.writes (Elt F) VO1_3.junk (kernelRun1_A c i arg1 harg1 arg2 harg2 arg3 harg3 arg4 harg4 arg5 harg5 arg6 harg6 arg7 harg7 hc0 hc1 x0 x1).2.1)

def out1_A_4 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) : Vec F S1x1152 .f32 :=
  VO1_4.read (Elt F) (VO1_4.writes (Elt F) VO1_4.junk (kernelRun1_A c i arg1 harg1 arg2 harg2 arg3 harg3 arg4 harg4 arg5 harg5 arg6 harg6 arg7 harg7 hc0 hc1 x0 x1).2.2.1)

theorem scover1_A_1 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) (y : S1152x128.Idx) :
    ∃ pc ∈ (kernelRun1_A c i arg1 harg1 arg2 harg2 arg3 harg3 arg4 harg4 arg5 harg5 arg6 harg6 arg7 harg7 hc0 hc1 x0 x1).2.2.2.1, y ∈ pc.1.set :=
  View.cover_of_tiledL (kernelRun1_A c i arg1 harg1 arg2 harg2 arg3 harg3 arg4 harg4 arg5 harg5 arg6 harg6 arg7 harg7 hc0 hc1 x0 x1).2.2.2.1 S1152x128.size (by sl_kernel_rfl) y

def sout1_A_1 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : cond1_0 i) (hc1 : ¬cond1_1 i)
    (x0 : Vec F S512x3584 .bf16) (x1 : Vec F S1152x3584 .bf16) : Vec F S1152x128 .f32 :=
  VS1_1.read (Elt F) (VS1_1.writes (Elt F) VS1_1.junk (kernelRun1_A c i arg1 harg1 arg2 harg2 arg3 harg3 arg4 harg4 arg5 harg5 arg6 harg6 arg7 harg7 hc0 hc1 x0 x1).2.2.2.1)

theorem cover1_B_2 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) (y : S512x1152.Idx) :
    ∃ pc ∈ (kernelRun1_B c i arg1 harg1 arg2 harg2 arg3 harg3 arg4 harg4 arg5 harg5 arg6 harg6 arg7 harg7 hc0 hc1 x0 x1 xo3 xs1).1, y ∈ pc.1.set :=
  View.cover_of_tiledL (kernelRun1_B c i arg1 harg1 arg2 harg2 arg3 harg3 arg4 harg4 arg5 harg5 arg6 harg6 arg7 harg7 hc0 hc1 x0 x1 xo3 xs1).1 S256x1152.size (by sl_kernel_rfl) y

def out1_B_2 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) : Vec F S512x1152 .bf16 :=
  VO1_2.read (Elt F) (VO1_2.writes (Elt F) VO1_2.junk (kernelRun1_B c i arg1 harg1 arg2 harg2 arg3 harg3 arg4 harg4 arg5 harg5 arg6 harg6 arg7 harg7 hc0 hc1 x0 x1 xo3 xs1).1)

theorem cover1_B_3 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) (y : S1152x3584.Idx) :
    ∃ pc ∈ (kernelRun1_B c i arg1 harg1 arg2 harg2 arg3 harg3 arg4 harg4 arg5 harg5 arg6 harg6 arg7 harg7 hc0 hc1 x0 x1 xo3 xs1).2.1, y ∈ pc.1.set :=
  View.cover_of_tiledL (kernelRun1_B c i arg1 harg1 arg2 harg2 arg3 harg3 arg4 harg4 arg5 harg5 arg6 harg6 arg7 harg7 hc0 hc1 x0 x1 xo3 xs1).2.1 S1152x256.size (by sl_kernel_rfl) y

def out1_B_3 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) : Vec F S1152x3584 .f32 :=
  VO1_3.read (Elt F) (VO1_3.writes (Elt F) VO1_3.junk (kernelRun1_B c i arg1 harg1 arg2 harg2 arg3 harg3 arg4 harg4 arg5 harg5 arg6 harg6 arg7 harg7 hc0 hc1 x0 x1 xo3 xs1).2.1)

def out1_B_4 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) : Vec F S1x1152 .f32 :=
  VO1_4.read (Elt F) (VO1_4.writes (Elt F) VO1_4.junk (kernelRun1_B c i arg1 harg1 arg2 harg2 arg3 harg3 arg4 harg4 arg5 harg5 arg6 harg6 arg7 harg7 hc0 hc1 x0 x1 xo3 xs1).2.2.1)

theorem scover1_B_1 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) (y : S1152x128.Idx) :
    ∃ pc ∈ (kernelRun1_B c i arg1 harg1 arg2 harg2 arg3 harg3 arg4 harg4 arg5 harg5 arg6 harg6 arg7 harg7 hc0 hc1 x0 x1 xo3 xs1).2.2.2.1, y ∈ pc.1.set :=
  View.cover_of_tiledL (kernelRun1_B c i arg1 harg1 arg2 harg2 arg3 harg3 arg4 harg4 arg5 harg5 arg6 harg6 arg7 harg7 hc0 hc1 x0 x1 xo3 xs1).2.2.2.1 S1152x128.size (by sl_kernel_rfl) y

def sout1_B_1 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : ¬cond1_1 i)
    (x0 : Vec F S512x3584 .bf16) (x1 : Vec F S1152x3584 .bf16) (xo3 : Vec F S1152x3584 .f32) (xs1 : Vec F S1152x128 .f32) : Vec F S1152x128 .f32 :=
  VS1_1.read (Elt F) (VS1_1.writes (Elt F) VS1_1.junk (kernelRun1_B c i arg1 harg1 arg2 harg2 arg3 harg3 arg4 harg4 arg5 harg5 arg6 harg6 arg7 harg7 hc0 hc1 x0 x1 xo3 xs1).2.2.2.1)

theorem cover1_C_2 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) (y : S512x1152.Idx) :
    ∃ pc ∈ (kernelRun1_C c i arg1 harg1 arg2 harg2 arg3 harg3 arg4 harg4 arg5 harg5 arg6 harg6 arg7 harg7 hc0 hc1 x0 x1 xo3 xs1).1, y ∈ pc.1.set :=
  View.cover_of_tiledL (kernelRun1_C c i arg1 harg1 arg2 harg2 arg3 harg3 arg4 harg4 arg5 harg5 arg6 harg6 arg7 harg7 hc0 hc1 x0 x1 xo3 xs1).1 S256x1152.size (by sl_kernel_rfl) y

def out1_C_2 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) : Vec F S512x1152 .bf16 :=
  VO1_2.read (Elt F) (VO1_2.writes (Elt F) VO1_2.junk (kernelRun1_C c i arg1 harg1 arg2 harg2 arg3 harg3 arg4 harg4 arg5 harg5 arg6 harg6 arg7 harg7 hc0 hc1 x0 x1 xo3 xs1).1)

theorem cover1_C_3 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) (y : S1152x3584.Idx) :
    ∃ pc ∈ (kernelRun1_C c i arg1 harg1 arg2 harg2 arg3 harg3 arg4 harg4 arg5 harg5 arg6 harg6 arg7 harg7 hc0 hc1 x0 x1 xo3 xs1).2.1, y ∈ pc.1.set :=
  View.cover_of_tiledL (kernelRun1_C c i arg1 harg1 arg2 harg2 arg3 harg3 arg4 harg4 arg5 harg5 arg6 harg6 arg7 harg7 hc0 hc1 x0 x1 xo3 xs1).2.1 S1152x256.size (by sl_kernel_rfl) y

def out1_C_3 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) : Vec F S1152x3584 .f32 :=
  VO1_3.read (Elt F) (VO1_3.writes (Elt F) VO1_3.junk (kernelRun1_C c i arg1 harg1 arg2 harg2 arg3 harg3 arg4 harg4 arg5 harg5 arg6 harg6 arg7 harg7 hc0 hc1 x0 x1 xo3 xs1).2.1)

theorem cover1_C_4 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) (y : S1x1152.Idx) :
    ∃ pc ∈ (kernelRun1_C c i arg1 harg1 arg2 harg2 arg3 harg3 arg4 harg4 arg5 harg5 arg6 harg6 arg7 harg7 hc0 hc1 x0 x1 xo3 xs1).2.2.1, y ∈ pc.1.set :=
  View.cover_of_tiledL (kernelRun1_C c i arg1 harg1 arg2 harg2 arg3 harg3 arg4 harg4 arg5 harg5 arg6 harg6 arg7 harg7 hc0 hc1 x0 x1 xo3 xs1).2.2.1 S1x1152.size (by sl_kernel_rfl) y

def out1_C_4 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) : Vec F S1x1152 .f32 :=
  VO1_4.read (Elt F) (VO1_4.writes (Elt F) VO1_4.junk (kernelRun1_C c i arg1 harg1 arg2 harg2 arg3 harg3 arg4 harg4 arg5 harg5 arg6 harg6 arg7 harg7 hc0 hc1 x0 x1 xo3 xs1).2.2.1)

theorem scover1_C_1 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) (y : S1152x128.Idx) :
    ∃ pc ∈ (kernelRun1_C c i arg1 harg1 arg2 harg2 arg3 harg3 arg4 harg4 arg5 harg5 arg6 harg6 arg7 harg7 hc0 hc1 x0 x1 xo3 xs1).2.2.2.1, y ∈ pc.1.set :=
  View.cover_of_tiledL (kernelRun1_C c i arg1 harg1 arg2 harg2 arg3 harg3 arg4 harg4 arg5 harg5 arg6 harg6 arg7 harg7 hc0 hc1 x0 x1 xo3 xs1).2.2.2.1 S1152x128.size (by sl_kernel_rfl) y

def sout1_C_1 (c : Dev nD) (i : grid1.Coords) (arg1 : Memref sig .tc .vmem S512x3584 .bf16) (harg1 : arg1.IsWhole) (arg2 : Memref sig .tc .vmem S1152x3584 .bf16) (harg2 : arg2.IsWhole) (arg3 : Memref sig .tc .vmem S512x1152 .bf16) (harg3 : arg3.IsWhole) (arg4 : Memref sig .tc .vmem S1152x3584 .f32) (harg4 : arg4.IsWhole) (arg5 : Memref sig .tc .vmem S1x1152 .f32) (harg5 : arg5.IsWhole) (arg6 : Memref sig .tc .vmem S1152x512 .bf16) (harg6 : arg6.IsWhole) (arg7 : Memref sig .tc .vmem S1152x128 .f32) (harg7 : arg7.IsWhole) (hc0 : ¬cond1_0 i) (hc1 : cond1_1 i)
    (x0 : Vec F S512x3584 .bf16) (x1 : Vec F S1152x3584 .bf16) (xo3 : Vec F S1152x3584 .f32) (xs1 : Vec F S1152x128 .f32) : Vec F S1152x128 .f32 :=
  VS1_1.read (Elt F) (VS1_1.writes (Elt F) VS1_1.junk (kernelRun1_C c i arg1 harg1 arg2 harg2 arg3 harg3 arg4 harg4 arg5 harg5 arg6 harg6 arg7 harg7 hc0 hc1 x0 x1 xo3 xs1).2.2.2.1)

def outsAt1 (c : Dev nD) : (n : ℕ) → n < cfg1.N → Vec F S512x1152 .bf16 × Vec F S1152x3584 .f32 × Vec F S1x1152 .f32 × Vec F S1152x128 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 48 = 0 then
      if h1 : (n + 1) % 48 = 47 then
        False.elim (by have hN : n + 1 < 48 := lt_of_lt_of_eq hn (show cfg1.N = 48 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 48 = 47 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2.1 (outsAt1 c n (Nat.lt_of_succ_lt hn)).2.2.2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.2, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2.2)

theorem outsAt1_A (c : Dev nD) (t : Fin cfg1.N) (h0 : t.val % 48 = 0) (h1 : ¬t.val % 48 = 47) :
    outsAt1 V c t.val t.isLt = (out1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t), out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 48 = 0) (h1 : ¬t.val % 48 = 47) :
    outsAt1 V c t.val t.isLt = (out1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2, out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 48 = 0) (h1 : t.val % 48 = 47) :
    outsAt1 V c t.val t.isLt = (out1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg1.N → sProp 𝕄
  | 0, _ => Pipeline.ΦA spec1 c
  | n + 1, hn => iprop(iprop((∃ d, owns (c : Thread nD τ) scM1_0 fullShare d) ∗ owns (c : Thread nD τ) scM1_1 fullShare ((outsAt1 V c n hn).2.2.2)) ∗ Rest1 (F := F) c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ d, owns (c : Thread nD τ) scM1_0 fullShare d) ∗ owns (c : Thread nD τ) scM1_1 fullShare ((outsAt1 V c n hn).2.2.2)) ∗ Rest1 (F := F) c) := rfl

theorem PhiS_pos (c : Dev nD) (n : ℕ) (h : n ≤ cfg1.N) (hz : n ≠ 0) :
    PhiS V c n h = iprop(iprop((∃ d, owns (c : Thread nD τ) scM1_0 fullShare d) ∗ owns (c : Thread nD τ) scM1_1 fullShare ((outsAt1 V c (n - 1) (by omega)).2.2.2)) ∗ Rest1 (F := F) c) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
    | ⟨4, _⟩ => (outsAt1 V c t.val t.isLt).2.2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem after1_4 (c : Dev nD) (t : Fin cfg1.N) : (dat1 V c).after 4 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_3_B (c : Dev nD) (t : Fin cfg1.N) (h0 : ¬t.val % 48 = 0) (h1 : ¬t.val % 48 = 47) (d) :
    (dat1 V c).before 3 t d = (outsAt1 V c (t.val - 1) (Nat.lt_of_le_of_lt (Nat.sub_le _ _) t.isLt)).2.1 := by
  have hN : t.val < 48 := lt_of_lt_of_eq t.isLt (show cfg1.N = 48 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_3_C (c : Dev nD) (t : Fin cfg1.N) (h0 : ¬t.val % 48 = 0) (h1 : t.val % 48 = 47) (d) :
    (dat1 V c).before 3 t d = (outsAt1 V c (t.val - 1) (Nat.lt_of_le_of_lt (Nat.sub_le _ _) t.isLt)).2.1 := by
  have hN : t.val < 48 := lt_of_lt_of_eq t.isLt (show cfg1.N = 48 from N_1)
  rw [Dat.before_out_kept _ 3 rfl t (by omega) (Bool.eq_false_iff.mpr fun h => by have := (flush1_3 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 48 := lt_of_lt_of_eq t.isLt (show cfg1.N = 48 from N_1)
  by_cases h0 : t.val % 48 = 0
  · by_cases h1 : t.val % 48 = 47
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold out1_A_2 out1_A_3 sout1_A_1; (try dsimp only)
        iintro ⟨⟨⟨HS0, HS1⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t)).2.2.2.2.2 _ Set.univ _)
        isplitl [H0]; · iexact H0
        isplitl [H1]; · iexact H1
        isplitl [H2]; · iexists _; iexact H2
        isplitl [H3]; · iexists _; iexact H3
        isplitl [H4]; · iexact H4
        isplitl [HS0]; · iexact HS0
        isplitl [HS1]; · iexact HS1
        iintro ⟨H0, H1, ⟨%e2, H2⟩, ⟨%e3, H3⟩, H4, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover1_A_1 c _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover1_A_2 c _ _ _ _ _ _ _ _ _ _ _ _ _ _ _ _ _ _ _)
        isplitl [H3]
        · unfold owns; iexists _; isplitr
          swap; · iexact H3
          ipureintro; exact View.read_writes_of_cover _ _ _ _ _ (cover1_A_3 c _ _ _ _ _ _ _ _ _ _ _ _ _ _ _ _ _ _ _)
        iexists _; iexact H4
      · exfalso; have hN : t.val < 48 := lt_of_lt_of_eq t.isLt (show cfg1.N = 48 from N_1); omega
  · by_cases h1 : t.val % 48 = 47
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4_C t (fun h => h0 ((hcond1_0 t).mp h)) ((hcond1_1 t).mpr h1)], after1_4]
      by_cases hz : t.val = 0
      · exfalso; have hN : t.val < 48 := lt_of_lt_of_eq t.isLt (show cfg1.N = 48 from N_1); omega
      · rw [PhiS_castSucc V c t, PhiS_pos V c _ _ hz]
        rw [outsAt1_C V c t h0 h1]
        simp only [before1_3_C V c t h0 h1]
        unfold out1_C_2 out1_C_3 out1_C_4 sout1_C_1; (try dsimp only)
        iintro ⟨⟨⟨HS0, HS1⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) _ _).2.2.2.2.2 Set.univ _)
        isplitl [H0]; · iexact H0
        isplitl [H1]; · iexact H1
        isplitl [H2]; · iexists _; iexact H2
        isplitl [H3]; · iexact H3
        isplitl [H4]; · iexists _; iexact H4
        isplitl [HS0]; · iexact HS0
        isplitl [HS1]; · iexact HS1
        iintro ⟨H0, H1, ⟨%e2, H2⟩, ⟨%e3, H3⟩, ⟨%e4, H4⟩, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover1_C_1 c _ _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover1_C_2 c _ _ _ _ _ _ _ _ _ _ _ _ _ _ _ _ _ _ _ _ _)
        isplitl [H3]
        · unfold owns; iexists _; isplitr
          swap; · iexact H3
          ipureintro; exact View.read_writes_of_cover _ _ _ _ _ (cover1_C_3 c _ _ _ _ _ _ _ _ _ _ _ _ _ _ _ _ _ _ _ _ _)
        unfold owns; iexists _; isplitr
        swap; · iexact H4
        ipureintro; exact View.read_writes_of_cover _ _ _ _ _ (cover1_C_4 c _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      by_cases hz : t.val = 0
      · exfalso; have hN : t.val < 48 := lt_of_lt_of_eq t.isLt (show cfg1.N = 48 from N_1); omega
      · rw [PhiS_castSucc V c t, PhiS_pos V c _ _ hz]
        rw [outsAt1_B V c t h0 h1]
        simp only [before1_3_B V c t h0 h1]
        unfold out1_B_2 out1_B_3 sout1_B_1; (try dsimp only)
        iintro ⟨⟨⟨HS0, HS1⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) _ _).2.2.2.2.2 _ Set.univ _)
        isplitl [H0]; · iexact H0
        isplitl [H1]; · iexact H1
        isplitl [H2]; · iexists _; iexact H2
        isplitl [H3]; · iexact H3
        isplitl [H4]; · iexact H4
        isplitl [HS0]; · iexact HS0
        isplitl [HS1]; · iexact HS1
        iintro ⟨H0, H1, ⟨%e2, H2⟩, ⟨%e3, H3⟩, H4, ⟨%fT0, HS0⟩, ⟨%es1, HS1⟩⟩
        isplitl [HS0 HS1 Hg]
        · isplitl [HS0 HS1]
          · isplitl [HS0]
            · iexists _; unfold owns; iexists _; isplitr
              swap; · iexact HS0
              ipureintro; rfl
            unfold owns; iexists _; isplitr
            swap; · iexact HS1
            ipureintro; exact View.read_writes_of_cover _ _ _ _ _ (scover1_B_1 c _ _ _ _ _ _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover1_B_2 c _ _ _ _ _ _ _ _ _ _ _ _ _ _ _ _ _ _ _ _ _)
        isplitl [H3]
        · unfold owns; iexists _; isplitr
          swap; · iexact H3
          ipureintro; exact View.read_writes_of_cover _ _ _ _ _ (cover1_B_3 c _ _ _ _ _ _ _ _ _ _ _ _ _ _ _ _ _ _ _ _ _)
        iexists _; iexact H4

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, HS1⟩, Hg⟩
  isplitl [HS0 HS1]
  · isplitl [HS0]
    · iexact HS0
    iexists _; iexact HS1
  iexact Hg

theorem hout (c : Dev nD) : (dat1 V c).Φ (Fin.last cfg1.N) ⊢ Pipeline.ΦA spec1 c :=
  Phi_out V c _ (by rw [Fin.val_last]; have : cfg1.N = 48 := N_1; omega)

end Cert.KernelIdeal.Run

end
-- ==== Proof.KernelIdeal.Dv.lean ====
/- The third pallas_call (the gradient of the rounding variables): its run, at any contents of the arrays it is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S256x1152 := Rect.unit (s := S256x1152) ![0, 0] S256x1152.size inb_S256x1152_S256x1152_0_0
abbrev r2_1 : Rect S1152x256 := Rect.unit (s := S1152x256) ![0, 0] S1152x256.size inb_S1152x256_S1152x256_0_0
abbrev r2_2 : Rect S1x1152 := Rect.unit (s := S1x1152) ![0, 0] S1x1152.size inb_S1x1152_S1x1152_0_0

def out2_4 (x0 : Vec F S1152x256 .f32) (x1 : Vec F S256x1152 .i8) (x2 : Vec F S1x1152 .f32) (x3 : Vec F S256x1152 .f32) : Vec F S256x1152 .f32 :=
  View.canon [⟨r2_0, k2_pay1 (k2_pay5 (View.ld x3 r2_0) (View.ld x1 r2_0)) (k2_pay6 (View.ld x3 r2_0)) (k2_pay7 (View.ld x3 r2_0)) (k2_pay8 (View.ld x0 r2_1)) (View.ld x2 r2_2)⟩]

theorem cover2_4 (p0 : Vec F S256x1152 .f32) (y : S256x1152.Idx) :
    ∃ pc ∈ ([⟨r2_0, p0⟩] : List (View.Piece (Elt F) S256x1152 .f32)), y ∈ pc.1.set :=
  View.cover_of_tiled [⟨r2_0, p0⟩] S256x1152.size (by rfl) y

set_option maxHeartbeats 1000000 in
theorem sound_kernel2 (c : Dev nD) (E : Set ℕ) (i : grid2.Coords) (arg1 : Memref sig .tc .vmem S1152x256 .f32) (harg1 : arg1.IsWhole) (arg2 : Memref sig .tc .vmem S256x1152 .i8) (harg2 : arg2.IsWhole) (arg3 : Memref sig .tc .vmem S1x1152 .f32) (harg3 : arg3.IsWhole) (arg4 : Memref sig .tc .vmem S256x1152 .f32) (harg4 : arg4.IsWhole) (arg5 : Memref sig .tc .vmem S256x1152 .f32) (harg5 : arg5.IsWhole)
    (x0 : Vec F S1152x256 .f32) (x1 : Vec F S256x1152 .i8) (x2 : Vec F S1x1152 .f32) (x3 : Vec F S256x1152 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2_dv i arg1 harg1 arg2 harg2 arg3 harg3 arg4 harg4 arg5 harg5) K := by
  simp only [cc2_dv_eq_skeleton]; unfold cc2_dv_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.KernelIdeal.Whole.lean ====
/- The whole program: the buffers' contents at every boundary between its host operations and its three pallas_calls, and its run. -/
module

public import proofs.«01_k».proof.Proof.KernelIdeal.Prep
public import proofs.«01_k».proof.Proof.KernelIdeal.Main
public import proofs.«01_k».proof.Proof.KernelIdeal.Dv
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v5, main_v6, main_v7]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps3 (W4 m ρ c)
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin (V2 m ρ) c
    unfold Pipeline.ΦA at h
    rw [show (pdats m ρ 1 c).Φ 0 = (dat1 (V2 m ρ) c).Φ 0 from rfl]
    iintro ⟨Hp, -, Hr⟩
    iapply h
    isplitl [Hr]; · iexact Hr
    iexact Hp
  hout c := by
    have h := hout (V2 m ρ) c
    unfold Pipeline.ΦA at h
    rw [Pipeline.ownSems0_none, show (pdats m ρ 1 c).Φ (Fin.last _) = (dat1 (V2 m ρ) c).Φ (Fin.last cfg1.N) from rfl]
    iintro H
    ihave H := h $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every unscoped buffer ends at the last boundary's contents, and every counter at zero. -/
theorem run_all : θ_run defs (onTc (τ := τ) (main (F := F))) ⟨m, fun _ => 0, ρ⟩ (fun r =>
      (∀ c : Dev nD, ∀ b ∈ Pipeline.ucRefs τ sig, r.2.mem (c, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨(fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c)⟩), h.2⟩) (run_all m ρ)

end Cert.KernelIdeal.Run

end
-- ==== Proof.Spec.lean ====
/- The scalar mathematics of the calibration step over the extended reals: the rounding function, its derivative, the
   regularizer's powers, and the two re-bracketings of sums that the tiled kernel needs. -/
module

public import Idealize.ShloMosaic.Lib.Pipeline.ValueKit
public import Idealize.ShloMosaic.Lib.Pointwise

@[expose] public section

set_option maxRecDepth 16384

noncomputable section

namespace Cert.Spec

open Idealize.ShloMosaic

/-- The stretched sigmoid of a rounding variable, before clipping. -/
def tt (v : EReal) : EReal := Ideal.logistic v * Ideal.ofBits .f32 0x3F99999A#32 + Ideal.ofBits .f32 0xBDCCCCCD#32
/-- The rectified sigmoid: `tt` clipped to [0, 1]. -/
def hh (v : EReal) : EReal := min 1 (max 0 (tt v))
/-- `2 h - 1`. -/
def uu (v : EReal) : EReal := Ideal.ofBits .f32 0x40000000#32 * hh v - 1
/-- The integer part plus the soft rounding, before clipping to the quantization range. -/
def pre (k : BitVec 8) (v : EReal) : EReal := FloatOps.sitofp (F := Ideal) FTy.f32 k + hh v
/-- The difference of the weight and its quantized value. -/
def dd (w s : EReal) (k : BitVec 8) (v : EReal) : EReal :=
  w - s * min (Ideal.ofBits .f32 0x40E00000#32) (max (Ideal.ofBits .f32 0xC1000000#32) (pre k v))
/-- One term of the regularizer, `1 - |u|^8`. -/
def rr (v : EReal) : EReal := 1 - Ideal.pow (FloatOps.absf (F := Ideal) (φ := .f32) (uu v)) (Ideal.ofBits .f32 0x41000000#32)
/-- The same as the kernel computes it, by repeated squaring. -/
def rk (v : EReal) : EReal := 1 - uu v * uu v * (uu v * uu v) * (uu v * uu v * (uu v * uu v))

/-- The constants as real numbers. -/
theorem ofBits_two : Ideal.ofBits .f32 0x40000000#32 = ((2 : ℝ) : EReal) := by
  simp [Ideal.ofBits, Ideal.ieee, -EReal.coe_mul]; norm_num
theorem ofBits_seven : Ideal.ofBits .f32 0x40E00000#32 = ((7 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul, -EReal.coe_neg]; norm_num
/-- The constants whose value does not matter are real numbers too. -/
theorem ofBits_stretch : ∃ r : ℝ, Ideal.ofBits .f32 0x3F99999A#32 = (r : EReal) := by
  simp [Ideal.ofBits, Ideal.ieee, -EReal.coe_mul]
theorem ofBits_gamma : ∃ r : ℝ, Ideal.ofBits .f32 0xBDCCCCCD#32 = (r : EReal) := by
  simp [Ideal.ofBits, Ideal.ieee, -EReal.coe_mul, -EReal.coe_neg]
theorem ofBits_regWeight : ∃ r : ℝ, Ideal.ofBits .f32 0x39924925#32 = (r : EReal) := by
  simp [Ideal.ofBits, Ideal.ieee, -EReal.coe_mul]

/-- The sigmoid is a real number, also at the infinities. -/
theorem logistic_real (v : EReal) : ∃ r : ℝ, Ideal.logistic v = (r : EReal) := by
  induction v with
  | bot => exact ⟨0, by simp⟩
  | coe r => exact ⟨_, Ideal.logistic_coe r⟩
  | top => exact ⟨1, by simp⟩

/-- So is the stretched sigmoid, -/
theorem tt_real (v : EReal) : ∃ r : ℝ, tt v = (r : EReal) := by
  obtain ⟨a, ha⟩ := logistic_real v
  obtain ⟨b, hb⟩ := ofBits_stretch
  obtain ⟨c, hc⟩ := ofBits_gamma
  exact ⟨a * b + c, by rw [tt, ha, hb, hc]; norm_cast⟩

/-- the rectified one, -/
theorem hh_real (v : EReal) : ∃ r : ℝ, hh v = (r : EReal) := by
  obtain ⟨a, ha⟩ := tt_real v
  rw [hh, ha]
  rcases le_total (0 : EReal) a with h | h
  · rw [max_eq_right h]
    rcases le_total (1 : EReal) a with h | h
    · exact ⟨1, by rw [min_eq_left h]; norm_cast⟩
    · exact ⟨a, by rw [min_eq_right h]⟩
  · exact ⟨0, by rw [max_eq_left h, min_eq_right zero_le_one]; norm_cast⟩

/-- and `2 h - 1`. -/
theorem uu_real (v : EReal) : ∃ r : ℝ, uu v = (r : EReal) := by
  obtain ⟨a, ha⟩ := hh_real v
  exact ⟨2 * a - 1, by rw [uu, ha, ofBits_two]; norm_cast⟩

/-- The magnitude of a real number. -/
theorem absf_coe (r : ℝ) : FloatOps.absf (F := Ideal) (φ := .f32) (r : EReal) = ((|r| : ℝ) : EReal) := by
  show max (r : EReal) (-(r : EReal)) = _
  rcases le_total 0 r with h | h
  · rw [abs_of_nonneg h, max_eq_left]
    exact_mod_cast (by linarith : -r ≤ r)
  · rw [abs_of_nonpos h, max_eq_right]
    · norm_cast
    · exact_mod_cast (by linarith : r ≤ -r)

/-- A real power with a natural exponent. -/
theorem rpow_nat (r : ℝ) (n : ℕ) : Real.rpow r (n : ℝ) = r ^ n := Real.rpow_natCast r n

/-- The eighth power of the magnitude is the eighth power. -/
theorem pow_abs_eight (r : ℝ) :
    Ideal.pow (FloatOps.absf (F := Ideal) (φ := .f32) (r : EReal)) (Ideal.ofBits .f32 0x41000000#32) = ((r ^ 8 : ℝ) : EReal) := by
  rw [absf_coe, ofBits_eight, Ideal.pow_coe_coe, show (8 : ℝ) = ((8 : ℕ) : ℝ) by norm_num, rpow_nat]
  congr 1
  exact Even.pow_abs (by decide) r

/-- Repeated squaring is the eighth power of the magnitude: `u` is always a real number. -/
theorem rk_eq_rr (v : EReal) : rk v = rr v := by
  obtain ⟨r, hr⟩ := uu_real v
  rw [rk, rr, hr, pow_abs_eight]
  have : r * r * (r * r) * (r * r * (r * r)) = r ^ 8 := by ring
  rw [← this]; norm_cast

/-- One term of the regularizer is a real number. -/
theorem rk_real (v : EReal) : ∃ r : ℝ, rk v = (r : EReal) := by
  obtain ⟨r, hr⟩ := uu_real v
  exact ⟨1 - r * r * (r * r) * (r * r * (r * r)), by rw [rk, hr]; norm_cast⟩

/-- The seventh power by multiplications is the sign times the seventh power of the magnitude. -/
theorem u7_eq (v : EReal) : uu v * uu v * (uu v * uu v) * (uu v * uu v) * uu v
    = (if 0 < uu v then 1 else if uu v < 0 then Ideal.ofBits .f32 0xBF800000#32 else 0)
      * Ideal.pow (FloatOps.absf (F := Ideal) (φ := .f32) (uu v)) (Ideal.ofBits .f32 0x40E00000#32) := by
  obtain ⟨r, hr⟩ := uu_real v
  rw [hr, absf_coe, ofBits_seven, ofBits_neg_one, Ideal.pow_coe_coe, show (7 : ℝ) = ((7 : ℕ) : ℝ) by norm_num, rpow_nat]
  have e : (r : EReal) * r * (r * r) * (r * r) * r = ((r ^ 7 : ℝ) : EReal) := by
    have : r * r * (r * r) * (r * r) * r = r ^ 7 := by ring
    rw [← this]; norm_cast
  rw [e]
  rcases lt_trichotomy r 0 with h | h | h
  · have h' : (r : EReal) < 0 := by exact_mod_cast h
    rw [if_neg (not_lt.mpr h'.le), if_pos h', abs_of_neg h, ← EReal.coe_mul]
    congr 1; ring
  · subst h; simp
  · have h' : (0 : EReal) < r := by exact_mod_cast h
    rw [if_pos h', abs_of_pos h, one_mul]

/-- The gradient's first factor: masking by a selection is multiplying by a 0/1 mask. -/
theorem mask_mul (p : Prop) [Decidable p] (a : EReal) : (if p then a else 0) = a * (if p then 1 else 0) := by
  split <;> simp

/-- A sum of real numbers is their real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A real factor distributes over a sum of real numbers. -/
theorem mul_sum_real {ι : Type*} (s : Finset ι) (c : EReal) (hc : ∃ r : ℝ, c = (r : EReal)) (f : ι → EReal)
    (hf : ∀ i, ∃ r : ℝ, f i = (r : EReal)) : c * ∑ i ∈ s, f i = ∑ i ∈ s, c * f i := by
  obtain ⟨r, rfl⟩ := hc
  choose g hg using hf
  simp only [hg, sum_coe, ← EReal.coe_mul, Finset.mul_sum]

/-- The regularizer accumulated over 14 row blocks of 256 is the sum over all 3584 rows. -/
theorem reg_blocks (f : Fin 3584 → EReal) (c : EReal) (hc : ∃ r : ℝ, c = (r : EReal)) (hf : ∀ i, ∃ r : ℝ, f i = (r : EReal)) :
    ∑ p : Fin 14, c * ∑ r : Fin 256, f ⟨p.val * 256 + r.val, by omega⟩ = c * ∑ d, f d := by
  rw [← mul_sum_real _ c hc (fun p : Fin 14 => ∑ r : Fin 256, f ⟨p.val * 256 + r.val, by omega⟩)]
  · congr 1
    exact Fin.sum_mul_add_congr fun s k hl => rfl
  · intro p
    choose g hg using hf
    exact ⟨_, by simp only [hg]; exact sum_coe _ _⟩

/-- The gradient of the rounding offset at one entry, from the entry of the Gram product and the layer's data. -/
def dvAt (g : EReal) (k : BitVec 8) (s v : EReal) : EReal :=
  Scalar.select (IntOp.andi (BitVec.ofBool (decide (0 < tt v))) (BitVec.ofBool (decide (tt v < 1))))
    (((if pre k v ≤ Ideal.ofBits .f32 0x40E00000#32 then Ideal.ofBits .f32 0xB8AAAAAB#32 * g * s else 0)
      + Ideal.ofBits .f32 0xBB924925#32 * (uu v * uu v * (uu v * uu v) * (uu v * uu v) * uu v))
      * (Ideal.ofBits .f32 0x3F99999A#32 * Ideal.logistic v * (1 - Ideal.logistic v))) 0

/-- The same as the plain mathematics writes it: a 0/1 mask of the clipping, the sign and the power of the magnitude. -/
def dvR (g : EReal) (k : BitVec 8) (s v : EReal) : EReal :=
  Scalar.select (IntOp.andi (BitVec.ofBool (decide (0 < tt v))) (BitVec.ofBool (decide (tt v < 1))))
    ((Ideal.ofBits .f32 0xB8AAAAAB#32 * g * s * (if pre k v ≤ Ideal.ofBits .f32 0x40E00000#32 then 1 else 0)
      + (Ideal.ofBits .f32 0xBB924925#32 * (if 0 < uu v then 1 else if uu v < 0 then Ideal.ofBits .f32 0xBF800000#32 else 0))
        * Ideal.pow (FloatOps.absf (F := Ideal) (φ := .f32) (uu v)) (Ideal.ofBits .f32 0x40E00000#32))
      * (Ideal.ofBits .f32 0x3F99999A#32 * Ideal.logistic v * (1 - Ideal.logistic v))) 0

/-- The two spellings of the gradient agree. -/
theorem dvAt_eq_dvR (g : EReal) (k : BitVec 8) (s v : EReal) : dvAt g k s v = dvR g k s v := by
  rw [dvAt, dvR, mask_mul, u7_eq, mul_assoc (Ideal.ofBits .f32 0xBB924925#32)]

/-! ## The four results, entry by entry -/

section
variable (X : Fin 24576 → Fin 3584 → EReal) (w : Fin 3584 → Fin 1152 → EReal) (k : Fin 3584 → Fin 1152 → BitVec 8)
  (s : Fin 1152 → EReal) (v : Fin 3584 → Fin 1152 → EReal)

/-- The output error: the activations times the difference of the weights. -/
def err (m : Fin 24576) (n : Fin 1152) : EReal := ∑ d : Fin 3584, X m d * dd (w d n) (s n) (k d n) (v d n)
/-- The mean of the squared error of one output channel. -/
def recon (n : Fin 1152) : EReal :=
  Ideal.div (∑ m : Fin 24576, err X w k s v m n * err X w k s v m n) (Ideal.ofBits .f32 0x46C00000#32)
/-- The regularizer of one output channel. -/
def reg (n : Fin 1152) : EReal := Ideal.ofBits .f32 0x39924925#32 * ∑ d : Fin 3584, rr (v d n)
/-- The gradient of the rounding variable. -/
def grad (d : Fin 3584) (n : Fin 1152) : EReal := dvR (∑ m : Fin 24576, X m d * err X w k s v m n) (k d n) (s n) (v d n)
end

end Cert.Spec

end
-- ==== Proof.Value.MainStep.lean ====
/- One grid point of the main call: the block of the error it writes, and the two lemmas about stores that are covered by
   later ones. -/
module
public import proofs.«01_k».proof.Proof.KernelIdeal.Main
public import proofs.«01_k».proof.Proof.Spec
public import Idealize.ShloMosaic.Lib.Pipeline.ReadBack
@[expose] public section
set_option maxRecDepth 16384
noncomputable section
namespace Cert.KernelIdeal.Value
open Cert.KernelIdeal Cert.KernelIdeal.Gen Cert.KernelIdeal.Run
open Idealize.ShloMosaic Idealize.ShloMosaic.TcCoe Idealize.SL.Sem
open Idealize.ShloMosaic.Pipeline (Dat)

/-- Column `n` of the error at row `r` of the block: the contraction of the two operands' rows. -/
def EB (x1 : Vec Ideal S1152x3584 .bf16) (x0 : Vec Ideal S512x3584 .bf16) (n : Fin 1152) (r : Fin 512) : EReal :=
  ∑ k : Fin 3584, x1 (ix2 n k) * x0 (ix2 r k)

/-- Stores made before others that already cover an index do not show there. -/
theorem canon_append_of_cover {Val : EltTy → Type} [∀ e, Nonempty (Val e)] {S : Shape} {e : EltTy} (L' : List (View.Piece Val S e)) (y : S.Idx) :
    ∀ (L : List (View.Piece Val S e)) (_ : ∃ p ∈ L, y ∈ p.1.set), View.canon (L ++ L') y = View.canon L y
  | [], hy => by obtain ⟨p, hp, _⟩ := hy; simp at hp
  | p :: L, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover L' y L ?_
      obtain ⟨q, hq, hyq⟩ := hy
      rcases List.mem_cons.mp hq with rfl | hq'
      · exact absurd hyq hm
      · exact ⟨q, hq', hyq⟩

/-- The last `n` stores alone, where they cover. -/
theorem canon_take {Val : EltTy → Type} [∀ e, Nonempty (Val e)] {S : Shape} {e : EltTy} (n : ℕ) (L : List (View.Piece Val S e)) (y : S.Idx)
    (hy : ∃ p ∈ L.take n, y ∈ p.1.set) : View.canon L y = View.canon (L.take n) y := by
  conv_lhs => rw [← List.take_append_drop n L]
  exact canon_append_of_cover _ y _ hy

variable (V : (c : Dev nD) → (b : Ref sig .tc) → Buf (Elt Ideal) ((c : Thread nD τ).loc b))

/-- A grid point is the first, the last, or neither. -/
theorem cases1 (t : Fin cfg1.N) : (t.val % 48 = 0 ∧ ¬ t.val % 48 = 47) ∨ (¬ t.val % 48 = 0 ∧ ¬ t.val % 48 = 47) ∨ (¬ t.val % 48 = 0 ∧ t.val % 48 = 47) := by
  omega

/-- One entry of the error block that a grid point writes. -/
theorem e_at (c : Dev nD) (t : Fin cfg1.N) (y : S512x1152.Idx) :
    (outsAt1 V c t.val t.isLt).1 y = EB (iblk1 V c 1 t) (iblk1 V c 0 t) (y 1) (y 0) := by
  rcases cases1 t with ⟨h0, h1⟩ | ⟨h0, h1⟩ | ⟨h0, h1⟩
  · rw [outsAt1_A V c t h0 h1]; dsimp only; frame_out
    canon_tiles x h
    all_goals
      unfold_payloads
      unfold EB
      pointwise
      refine Finset.sum_congr rfl fun k _ => congrArg₂ _ ?_ ?_ <;> blk_ext
  · rw [outsAt1_B V c t h0 h1]; dsimp only; frame_out
    canon_tiles x h
    all_goals
      unfold_payloads
      unfold EB
      pointwise
      refine Finset.sum_congr rfl fun k _ => congrArg₂ _ ?_ ?_ <;> blk_ext
  · rw [outsAt1_C V c t h0 h1]; dsimp only; frame_out
    canon_tiles x h
    all_goals
      unfold_payloads
      unfold EB
      pointwise
      refine Finset.sum_congr rfl fun k _ => congrArg₂ _ ?_ ?_ <;> blk_ext
end Cert.KernelIdeal.Value
end
-- ==== Proof.Value.MainGram.lean ====
/- One grid point of the main call: the contribution to the Gram product, in each of the three cases of the grid. -/
module
public import proofs.«01_k».proof.Proof.KernelIdeal.Main
public import proofs.«01_k».proof.Proof.Value.MainStep
public import Idealize.ShloMosaic.Lib.Pipeline.ReadBack
@[expose] public section
set_option maxRecDepth 16384
noncomputable section
namespace Cert.KernelIdeal.Value
open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

set_option maxHeartbeats 4000000 in
/-- The Gram array after one grid point: what it held before (nothing at the first), plus this block of rows. -/
theorem gt_at (c : Dev nD) (t : Fin cfg1.N) (y : S1152x3584.Idx) :
    (outsAt1 V c t.val t.isLt).2.1 y
      = (if t.val % 48 = 0 then 0 else (outsAt1 V c (t.val - 1) (Nat.lt_of_le_of_lt (Nat.sub_le _ _) t.isLt)).2.1 y)
        + ∑ r : Fin 512, EB (iblk1 V c 1 t) (iblk1 V c 0 t) (y 0) r * (iblk1 V c 0 t : Vec Ideal S512x3584 .bf16) (ix2 r (y 1)) := by
  rcases cases1 t with ⟨h0, h1⟩ | ⟨h0, h1⟩ | ⟨h0, h1⟩
  · rw [outsAt1_A V c t h0 h1, if_pos h0]; dsimp only; frame_open
    simp (disch := decide) only [↓ View.readCov_skip, ↓ View.readCov_cons_toLoadRect, ↓ View.readCov_fill]
    frame_out
    generalize hY : View.readCov (Val := Elt Ideal) (View.whole cc1_scratch0) _ _ = Y'
    obtain ⟨Y, hYY⟩ : ∃ Y : Vec Ideal S1152x512 .bf16, Y = Y' := ⟨Y', rfl⟩
    subst hYY
    have hE : ∀ n r, Y (ix2 n r) = EB (iblk1 V c 1 t) (iblk1 V c 0 t) n r := by
      intro n r
      rw [← hY, View.readCov_eq_canon']
      dsimp only
      generalize hz : (LoadRect.idx _ _ : S1152x512.Idx) = z
      have z0 : (z 0).val = n.val := by rw [← hz]; show 0 + 1 * n.val = n.val; omega
      have z1 : (z 1).val = r.val := by rw [← hz]; show 0 + 1 * r.val = r.val; omega
      clear hz hY
      canon_tiles x h
      all_goals
        unfold_payloads
        unfold EB
        pointwise
        blk_point []
    clear hY
    refine (canon_take 14 _ y ?_).trans ?_ <;> dsimp only [List.take]
    · set_option maxRecDepth 1000000 in exact View.cover_of_tiled_head _ _ _ (by rfl) _
    canon_tiles x h
    all_goals
      unfold_payloads
      pointwise [hE]
      blk_point []
  · rw [outsAt1_B V c t h0 h1, if_neg h0]; dsimp only; frame_out
    generalize hY : View.readCov (Val := Elt Ideal) (View.whole cc1_scratch0) _ _ = Y'
    obtain ⟨Y, hYY⟩ : ∃ Y : Vec Ideal S1152x512 .bf16, Y = Y' := ⟨Y', rfl⟩
    subst hYY
    have hE : ∀ n r, Y (ix2 n r) = EB (iblk1 V c 1 t) (iblk1 V c 0 t) n r := by
      intro n r
      rw [← hY, View.readCov_eq_canon']
      dsimp only
      generalize hz : (LoadRect.idx _ _ : S1152x512.Idx) = z
      have z0 : (z 0).val = n.val := by rw [← hz]; show 0 + 1 * n.val = n.val; omega
      have z1 : (z 1).val = r.val := by rw [← hz]; show 0 + 1 * r.val = r.val; omega
      clear hz hY
      canon_tiles x h
      all_goals
        unfold_payloads
        unfold EB
        pointwise
        blk_point []
    clear hY
    canon_tiles x h
    all_goals
      unfold_payloads
      pointwise [hE]
      blk_point []
  · rw [outsAt1_C V c t h0 h1, if_neg h0]; dsimp only; frame_out
    generalize hY : View.readCov (Val := Elt Ideal) (View.whole cc1_scratch0) _ _ = Y'
    obtain ⟨Y, hYY⟩ : ∃ Y : Vec Ideal S1152x512 .bf16, Y = Y' := ⟨Y', rfl⟩
    subst hYY
    have hE : ∀ n r, Y (ix2 n r) = EB (iblk1 V c 1 t) (iblk1 V c 0 t) n r := by
      intro n r
      rw [← hY, View.readCov_eq_canon']
      dsimp only
      generalize hz : (LoadRect.idx _ _ : S1152x512.Idx) = z
      have z0 : (z 0).val = n.val := by rw [← hz]; show 0 + 1 * n.val = n.val; omega
      have z1 : (z 1).val = r.val := by rw [← hz]; show 0 + 1 * r.val = r.val; omega
      clear hz hY
      canon_tiles x h
      all_goals
        unfold_payloads
        unfold EB
        pointwise
        blk_point []
    clear hY
    canon_tiles x h
    all_goals
      unfold_payloads
      pointwise [hE]
      blk_point []

end Cert.KernelIdeal.Value
end
-- ==== Proof.Value.MainSquares.lean ====
/- One grid point of the main call: the contribution to the sum of squares, and the mean written at the last point. -/
module
public import proofs.«01_k».proof.Proof.KernelIdeal.Main
public import proofs.«01_k».proof.Proof.Value.MainStep
public import Idealize.ShloMosaic.Lib.Pipeline.ReadBack
@[expose] public section
set_option maxRecDepth 16384
noncomputable section
namespace Cert.KernelIdeal.Value
open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The tile's squares a point adds to lane `l` of column `n`: the four lanes of the block of rows that fall on `l`. -/
theorem sq_at (c : Dev nD) (t : Fin cfg1.N) (n : Fin 1152) (l : Fin 128) :
    (outsAt1 V c t.val t.isLt).2.2.2 (ix2 n l)
      = (if t.val % 48 = 0 then 0 else (outsAt1 V c (t.val - 1) (Nat.lt_of_le_of_lt (Nat.sub_le _ _) t.isLt)).2.2.2 (ix2 n l))
        + ∑ q : Fin 4, EB (iblk1 V c 1 t) (iblk1 V c 0 t) n ⟨q.val * 128 + l.val, by omega⟩ * EB (iblk1 V c 1 t) (iblk1 V c 0 t) n ⟨q.val * 128 + l.val, by omega⟩ := by
  rw [Fin.sum_univ_four]
  have e0 : (⟨(0 : Fin 4).val * 128 + l.val, by omega⟩ : Fin 512) = ⟨l.val, by omega⟩ := Fin.ext (by simp)
  have e1 : (⟨(1 : Fin 4).val * 128 + l.val, by omega⟩ : Fin 512) = ⟨128 + l.val, by omega⟩ := Fin.ext (by simp)
  have e2 : (⟨(2 : Fin 4).val * 128 + l.val, by omega⟩ : Fin 512) = ⟨256 + l.val, by omega⟩ := Fin.ext (by simp)
  have e3 : (⟨(3 : Fin 4).val * 128 + l.val, by omega⟩ : Fin 512) = ⟨256 + (128 + l.val), by omega⟩ := Fin.ext (by simp; omega)
  rw [e0, e1, e2, e3]
  clear e0 e1 e2 e3
  rcases cases1 t with ⟨h0, h1⟩ | ⟨h0, h1⟩ | ⟨h0, h1⟩
  · rw [outsAt1_A V c t h0 h1, if_pos h0]; dsimp only; frame_open
    simp (disch := decide) only [↓ View.readCov_skip, ↓ View.readCov_cons_toLoadRect, ↓ View.readCov_fill]
    frame_out
    unfold_payloads
    pointwise
    rw [← add_assoc]
    rfl
  · rw [outsAt1_B V c t h0 h1, if_neg h0]; dsimp only; frame_out
    simp only [read_unread_whole]
    unfold_payloads
    pointwise
    exact (add_assoc (G := EReal) _ _ _).trans (congrArg _ (add_assoc (G := EReal) _ _ _).symm)
  · rw [outsAt1_C V c t h0 h1, if_neg h0]; dsimp only; frame_out
    simp only [read_unread_whole]
    unfold_payloads
    pointwise
    exact (add_assoc (G := EReal) _ _ _).trans (congrArg _ (add_assoc (G := EReal) _ _ _).symm)

/-- What the last grid point writes: the sum of all squares so far, over the number of rows. -/
theorem recon_at (c : Dev nD) (t : Fin cfg1.N) (h1 : t.val % 48 = 47) (n : Fin 1152) :
    (outsAt1 V c t.val t.isLt).2.2.1 (ix2 0 n)
      = Ideal.div (∑ l : Fin 128, (outsAt1 V c t.val t.isLt).2.2.2 (ix2 n l)) (Ideal.ofBits .f32 0x46C00000#32) := by
  have h0 : ¬ t.val % 48 = 0 := by omega
  rw [outsAt1_C V c t h0 h1]; dsimp only; frame_out
  generalize k1_pay15 (F := Ideal) _ _ = S
  unfold_payloads
  pointwise

end Cert.KernelIdeal.Value
end
-- ==== Proof.Value.MainFinal.lean ====
/- The three arrays of the main call after its last grid point: the error, the Gram product and the mean of squares. -/
module
public import proofs.«01_k».proof.Proof.KernelIdeal.Main
public import proofs.«01_k».proof.Proof.Value.MainGram
public import proofs.«01_k».proof.Proof.Value.MainSquares
public import Idealize.ShloMosaic.Lib.Pipeline.ReadBack
@[expose] public section
set_option maxRecDepth 16384
noncomputable section
namespace Cert.KernelIdeal.Value
open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The activations the second call finds. -/
def XA (c : Dev nD) (m : Fin 24576) (k : Fin 3584) : EReal := V c main_v0 (ix2 m k)

/-- The transposed weight differences the second call finds. -/
def DA (c : Dev nD) (n : Fin 1152) (k : Fin 3584) : EReal := V c main_v2_0 (ix2 n k)

/-- The error at row `m`, column `n`, over the arrays the second call finds. -/
def EA (c : Dev nD) (n : Fin 1152) (m : Fin 24576) : EReal :=
  ∑ k : Fin 3584, DA V c n k * XA V c m k

/-- Which block of each operand each grid point stages. -/
theorem idx1 : ∀ t : Fin grid1.N, win1_0.index t = ![t.val, 0] ∧ win1_1.index t = ![0, 0] ∧ win1_2.index t = ![t.val, 0] ∧ win1_3.index t = ![0, 0] ∧ win1_4.index t = ![0, 0] := by
  decide +kernel

/-- There are 48 grid points. -/
theorem lt48 (p : Fin cfg1.N) : p.val < 48 := lt_of_lt_of_eq p.isLt N_1

/-- The error of one block is the block of the error. -/
theorem EB_eq (c : Dev nD) (p : Fin cfg1.N) (n : Fin 1152) (r : Fin 512) :
    EB (iblk1 V c 1 p) (iblk1 V c 0 p) n r = EA V c n ⟨p.val * 512 + r.val, by have := lt48 p; omega⟩ := by
  unfold EB EA DA XA
  refine Finset.sum_congr (M := EReal) rfl fun k _ => congrArg₂ (fun a b : EReal => a * b) ?_ ?_
  · blk_ext [iblk1, idx1 p]
  · blk_ext [iblk1, idx1 p]

/-- The activations of one block are those of the array. -/
theorem x_eq (c : Dev nD) (p : Fin cfg1.N) (r : Fin 512) (k : Fin 3584) :
    (iblk1 V c 0 p : Vec Ideal S512x3584 .bf16) (ix2 r k) = XA V c ⟨p.val * 512 + r.val, by have := lt48 p; omega⟩ k := by
  unfold XA
  blk_ext [iblk1, idx1 p]

/-- The error after the second call. -/
theorem e_final (c : Dev nD) : (dat1 V c).arrAt 2 cfg1.N = fun i : S24576x1152.Idx => EA V c (i 1) (i 0) := by
  refine (dat1 V c).arrAt_eq_of_covers 2 _ (by decide +kernel) fun t hf y => ?_
  blk_simp; rw [after1_2]
  idx_vars y
  have ei : ((View.whole main_v3_0).slice (win1_2.rect t)).emb (ix2 y0 y1) = (ix2 ⟨t.val * 512 + y0.val, by have := lt48 t; omega⟩ y1 : S24576x1152.Idx) := by blk_ext [idx1 t]
  rw [ei]
  exact (e_at V c t (ix2 y0 y1)).trans (EB_eq V c t y1 y0)

/-- One step of the Gram accumulation, in terms of the whole arrays. -/
theorem gt_step (c : Dev nD) (t : Fin cfg1.N) (n : Fin 1152) (k : Fin 3584) :
    (outsAt1 V c t.val t.isLt).2.1 (ix2 n k)
      = (if t.val % 48 = 0 then 0 else (outsAt1 V c (t.val - 1) (Nat.lt_of_le_of_lt (Nat.sub_le _ _) t.isLt)).2.1 (ix2 n k))
        + ∑ r : Fin 512, EA V c n ⟨t.val * 512 + r.val, by have := lt48 t; omega⟩ * XA V c ⟨t.val * 512 + r.val, by have := lt48 t; omega⟩ k := by
  refine (gt_at V c t (ix2 n k)).trans (congrArg (fun z : EReal => _ + z) (Finset.sum_congr (M := EReal) rfl fun r _ => ?_))
  exact congrArg₂ (fun a b : EReal => a * b) (EB_eq V c t n r) (x_eq V c t r k)

/-- After the last point the steps add up to the sum over all rows. -/
theorem gt_sum (c : Dev nD) (t : Fin cfg1.N) (ht : t.val % 48 = 47) (n : Fin 1152) (k : Fin 3584) :
    (outsAt1 V c t.val t.isLt).2.1 (ix2 n k) = ∑ m : Fin 24576, EA V c n m * XA V c m k := by
  have hq : t.val / 48 = 0 := by have := lt48 t; omega
  have h := Pipeline.eq_sum_fin_of_reset_step_of_flush (fun n' h => (outsAt1 V c n' h).2.1 (ix2 n k)) 48 (0 : EReal)
    (fun p => ∑ r : Fin 512, EA V c n ⟨p.val * 512 + r.val, by have := lt48 p; omega⟩ * XA V c ⟨p.val * 512 + r.val, by have := lt48 p; omega⟩ k)
    (fun t h => by rw [gt_step, if_pos h]) (fun t h => by rw [gt_step, if_neg h]) t ht
  rw [zero_add] at h
  refine h.trans (Fin.sum_mul_add_congr fun s k' hl => ?_)
  have e : ∀ h1, (⟨(48 * (t.val / 48) + s.val) * 512 + k'.val, h1⟩ : Fin 24576) = ⟨s.val * 512 + k'.val, hl⟩ := fun h1 => Fin.ext (by simp only [hq]; omega)
  rw [e]

/-- The Gram product after the second call. -/
theorem gt_final (c : Dev nD) : (dat1 V c).arrAt 3 cfg1.N = fun i : S1152x3584.Idx => ∑ m : Fin 24576, EA V c (i 0) m * XA V c m (i 1) := by
  refine (dat1 V c).arrAt_eq_of_covers 3 _ (by decide +kernel) fun t hf y => ?_
  blk_simp; rw [after1_3]
  idx_vars y
  have ei : ((View.whole main_v3_1).slice (win1_3.rect t)).emb (ix2 y0 y1) = (ix2 y0 y1 : S1152x3584.Idx) := by blk_ext [idx1 t]
  rw [ei]
  exact gt_sum V c t ((flush1_3 t).mp hf) y0 y1

/-- The lanes' sums of squares, over all points: every row of the error once. -/
theorem sq_sum (c : Dev nD) (t : Fin cfg1.N) (ht : t.val % 48 = 47) (n : Fin 1152) :
    ∑ l : Fin 128, (outsAt1 V c t.val t.isLt).2.2.2 (ix2 n l) = ∑ m : Fin 24576, EA V c n m * EA V c n m := by
  have hq : t.val / 48 = 0 := by have := lt48 t; omega
  have h := fun l => Pipeline.eq_sum_fin_of_reset_step_apply_of_flush (fun n' h (l : Fin 128) => (outsAt1 V c n' h).2.2.2 (ix2 n l)) 48 (fun _ => (0 : EReal))
    (fun p l => ∑ q : Fin 4, EB (iblk1 V c 1 p) (iblk1 V c 0 p) n ⟨q.val * 128 + l.val, by omega⟩ * EB (iblk1 V c 1 p) (iblk1 V c 0 p) n ⟨q.val * 128 + l.val, by omega⟩)
    (fun t h a => by rw [sq_at, if_pos h]) (fun t h a => by rw [sq_at, if_neg h]) t ht l
  refine (Finset.sum_congr (M := EReal) rfl fun l _ => (h l).trans (zero_add _)).trans ?_
  rw [Finset.sum_comm]
  refine Eq.trans (Finset.sum_congr (M := EReal) rfl fun s _ => Finset.sum_comm.trans (Fin.sum_mul_add_congr (L := 512) (S := 4) (n := 128)
    (f := fun r => EA V c n ⟨s.val * 512 + r.val, by omega⟩ * EA V c n ⟨s.val * 512 + r.val, by omega⟩) fun q l hl => ?_)) (Fin.sum_mul_add_congr (S := 48) (n := 512) (L := 24576) fun s k hl => rfl)
  rw [EB_eq]
  have e : ∀ h1, (⟨(48 * (t.val / 48) + s.val) * 512 + (q.val * 128 + l.val), h1⟩ : Fin 24576) = ⟨s.val * 512 + (q.val * 128 + l.val), by omega⟩ := fun h1 => Fin.ext (by simp only [hq]; omega)
  rw [e]

/-- The mean of the squared error after the second call. -/
theorem recon_final (c : Dev nD) : (dat1 V c).arrAt 4 cfg1.N = fun i : S1x1152.Idx =>
    Ideal.div (∑ m : Fin 24576, EA V c (i 1) m * EA V c (i 1) m) (Ideal.ofBits .f32 0x46C00000#32) := by
  refine (dat1 V c).arrAt_eq_of_covers 4 _ (by decide +kernel) fun t hf y => ?_
  blk_simp; rw [after1_4]
  have ht := (flush1_4 t).mp hf
  idx_vars y
  have ez : (ix2 y0 y1 : S1x1152.Idx) = ix2 0 y1 := by blk_ext
  have ei : ((View.whole main_v3_2).slice (win1_4.rect t)).emb (ix2 y0 y1) = (ix2 y0 y1 : S1x1152.Idx) := by blk_ext [idx1 t]
  rw [ei, ez, recon_at V c t ht, sq_sum V c t ht]
  rfl

end Cert.KernelIdeal.Value
end
-- ==== Proof.Value.Dv.lean ====
/- The array of the last call: the gradient of the rounding variable. -/
module
public import proofs.«01_k».proof.Proof.KernelIdeal.Main
public import proofs.«01_k».proof.Proof.KernelIdeal.Dv
public import proofs.«01_k».proof.Proof.Spec
public import Idealize.ShloMosaic.Lib.Pipeline.ReadBack
@[expose] public section
set_option maxRecDepth 16384
noncomputable section
namespace Cert.KernelIdeal.Value
open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block of each operand each grid point stages. -/
theorem idx2 : ∀ t : Fin grid2.N, win2_0.index t = ![0, t.val] ∧ win2_1.index t = ![t.val, 0] ∧ win2_2.index t = ![0, 0] ∧ win2_3.index t = ![t.val, 0] ∧ win2_4.index t = ![t.val, 0] := by
  decide +kernel

/-- One entry of the gradient, from its block. -/
theorem dv_at (c : Dev nD) (t : Fin cfg2.N) (a : Fin 256) (b : Fin 1152) :
    out2_4 (iblk2 V c 0 t) (iblk2 V c 1 t) (iblk2 V c 2 t) (iblk2 V c 3 t) (ix2 a b)
      = Spec.dvAt ((iblk2 V c 0 t : Vec Ideal S1152x256 .f32) (ix2 b a)) ((iblk2 V c 1 t : Vec Ideal S256x1152 .i8) (ix2 a b)) ((iblk2 V c 2 t : Vec Ideal S1x1152 .f32) (ix2 0 b)) ((iblk2 V c 3 t : Vec Ideal S256x1152 .f32) (ix2 a b)) := by
  frame_out
  unfold_payloads
  pointwise
  rfl

/-- The whole gradient after the last call. -/
theorem dv_final (c : Dev nD) : (dat2 V c).arrAt 4 cfg2.N = fun i : S3584x1152.Idx =>
    Spec.dvAt (V c main_v3_1 (ix2 (i 1) (i 0))) (V c main_arg2 (ix2 (i 0) (i 1))) (V c main_v1 (ix2 0 (i 1))) (V c main_arg4 (ix2 (i 0) (i 1))) := by
  refine (dat2 V c).arrAt_eq_of_covers 4 _ (by decide +kernel) fun t hf y => ?_
  blk_simp; rw [after2_4]
  idx_vars y
  refine (dv_at V c t y0 y1).trans ?_
  congr 1
  all_goals blk_ext [iblk2, idx2 t]

end Cert.KernelIdeal.Value
end
-- ==== Proof.Value.Prep.lean ====
/- The two arrays of the first call: the transposed difference of the weights, and the regularizer. -/
module
public import proofs.«01_k».proof.Proof.KernelIdeal.Main
public import proofs.«01_k».proof.Proof.KernelIdeal.Prep
public import proofs.«01_k».proof.Proof.Spec
public import Idealize.ShloMosaic.Lib.Pipeline.ReadBack
@[expose] public section
set_option maxRecDepth 16384
noncomputable section
namespace Cert.KernelIdeal.Value
open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Which block of each operand each grid point stages. -/
theorem idx0 : ∀ t : Fin grid0.N, win0_0.index t = ![t.val, 0] ∧ win0_1.index t = ![t.val, 0] ∧ win0_2.index t = ![0, 0] ∧ win0_3.index t = ![t.val, 0] ∧ win0_4.index t = ![0, t.val] ∧ win0_5.index t = ![0, 0] := by
  decide +kernel

/-- One entry of the transposed difference, from its block. -/
theorem dt_at (c : Dev nD) (t : Fin cfg0.N) (a : Fin 1152) (b : Fin 256) :
    (outsAt0 V c t.val t.isLt).1 (ix2 a b) = Spec.dd ((iblk0 V c 0 t : Vec Ideal S256x1152 .f32) (ix2 b a)) ((iblk0 V c 2 t : Vec Ideal S1x1152 .f32) (ix2 0 a)) ((iblk0 V c 1 t : Vec Ideal S256x1152 .i8) (ix2 b a)) ((iblk0 V c 3 t : Vec Ideal S256x1152 .f32) (ix2 b a)) := by
  by_cases h0 : t.val % 14 = 0
  · rw [outsAt0_A V c t h0]; dsimp only; frame_out
    unfold_payloads
    pointwise
    rfl
  · rw [outsAt0_B V c t h0]; dsimp only; frame_out
    unfold_payloads
    pointwise
    rfl

/-- The regularizer after one grid point: what it held before (nothing at the first), plus this block of rows. -/
theorem reg_at (c : Dev nD) (t : Fin cfg0.N) (a : Fin 1152) :
    (outsAt0 V c t.val t.isLt).2 (ix2 0 a) = (if t.val % 14 = 0 then 0 else (outsAt0 V c (t.val - 1) (Nat.lt_of_le_of_lt (Nat.sub_le _ _) t.isLt)).2 (ix2 0 a))
    + Ideal.ofBits .f32 0x39924925#32 * ∑ b : Fin 256, Spec.rk ((iblk0 V c 3 t : Vec Ideal S256x1152 .f32) (ix2 b a)) := by
  by_cases h0 : t.val % 14 = 0
  · rw [outsAt0_A V c t h0, if_pos h0]; dsimp only; frame_out
    unfold_payloads
    pointwise
    rfl
  · rw [outsAt0_B V c t h0, if_neg h0]; dsimp only; frame_out
    unfold_payloads
    pointwise
    rfl

/-- The transposed difference of weight and quantized value after the first call. -/
theorem dt_final (c : Dev nD) : (dat0 V c).arrAt 4 cfg0.N = fun i : S1152x3584.Idx =>
    Spec.dd (V c main_arg1 (ix2 (i 1) (i 0))) (V c main_v1 (ix2 0 (i 0))) (V c main_arg2 (ix2 (i 1) (i 0))) (V c main_arg4 (ix2 (i 1) (i 0))) := by
  refine (dat0 V c).arrAt_eq_of_covers 4 _ (by decide +kernel) fun t hf y => ?_
  blk_simp; rw [after0_4]
  idx_vars y
  refine (dt_at V c t y0 y1).trans ?_
  congr 1
  all_goals blk_ext [iblk0, idx0 t]

/-- The regularizer after the first call, block of rows by block of rows. -/
theorem reg_final (c : Dev nD) : (dat0 V c).arrAt 5 cfg0.N = fun i : S1x1152.Idx =>
    ∑ p : Fin 14, Ideal.ofBits .f32 0x39924925#32 * ∑ b : Fin 256, Spec.rk (V c main_arg4 (ix2 ⟨p.val * 256 + b.val, by omega⟩ (i 1))) := by
  refine (dat0 V c).arrAt_eq_of_covers 5 _ (by decide +kernel) fun t hf y => ?_
  blk_simp; rw [after0_5]
  idx_vars y
  have h := Pipeline.eq_sum_fin_of_reset_step_apply_of_flush (fun n h (a : Fin 1152) => (outsAt0 V c n h).2 (ix2 0 a)) 14 (fun _ => 0)
    (fun p a => Ideal.ofBits .f32 0x39924925#32 * ∑ b : Fin 256, Spec.rk ((iblk0 V c 3 p : Vec Ideal S256x1152 .f32) (ix2 b a)))
    (fun t h a => by rw [reg_at, if_pos h]) (fun t h a => by rw [reg_at, if_neg h])
    t ((flush0_5 t).mp hf) y1
  rw [zero_add] at h
  have ez : (ix2 y0 y1 : S1x1152.Idx) = ix2 0 y1 := by blk_ext
  rw [ez]
  refine h.trans (Finset.sum_congr (M := EReal) rfl fun s _ => congrArg _ (Finset.sum_congr (M := EReal) rfl fun b _ => congrArg _ ?_))
  have ht := (flush0_5 t).mp hf
  blk_ext [iblk0, idx0 t, idx0 ⟨_, Pipeline.run_point_lt_of_flush t ((flush0_5 t).mp hf) s⟩]

end Cert.KernelIdeal.Value
end
-- ==== Proof.Value.KernelWhole.lean ====
/- The four arrays of the kernel after its three calls, entry by entry, as the same mathematics as the reference's. -/
module
public import proofs.«01_k».proof.Proof.KernelIdeal.Whole
public import proofs.«01_k».proof.Proof.Value.MainFinal
public import proofs.«01_k».proof.Proof.Value.Dv
public import proofs.«01_k».proof.Proof.Value.Prep
@[expose] public section
set_option maxRecDepth 16384
noncomputable section
namespace Cert.KernelIdeal.Value
open Cert.KernelIdeal Cert.KernelIdeal.Gen Cert.KernelIdeal.Run
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The activations by row and column, as the calls find them. -/
def xs (c : Dev nD) : Fin 24576 → Fin 3584 → EReal := fun a b => (V1 m ρ c main_v0 : Vec Ideal S24576x3584 .bf16) (ix2 a b)
/-- The weights. -/
def ws (c : Dev nD) : Fin 3584 → Fin 1152 → EReal := fun a b => (V1 m ρ c main_arg1 : Vec Ideal S3584x1152 .f32) (ix2 a b)
/-- The integer weights. -/
def ks (c : Dev nD) : Fin 3584 → Fin 1152 → BitVec 8 := fun a b => (V1 m ρ c main_arg2 : Vec Ideal S3584x1152 .i8) (ix2 a b)
/-- The scales. -/
def ss (c : Dev nD) : Fin 1152 → EReal := fun b => (V1 m ρ c main_v1 : Vec Ideal S1x1152 .f32) (ix2 0 b)
/-- The rounding variables. -/
def vs (c : Dev nD) : Fin 3584 → Fin 1152 → EReal := fun a b => (V1 m ρ c main_arg4 : Vec Ideal S3584x1152 .f32) (ix2 a b)

/-- The activations are the first argument, its two leading axes merged. -/
theorem entry_x (c : Dev nD) : V1 m ρ c main_v0 = shapeCast main_v0.ty.shape (m ((c.tc : Thread nD τ).loc main_arg0)) shapeCasts_S12x2048x3584_S24576x3584 := by
  dsimp only [V1, W1, hostOps0]
  after_results

/-- The scales are the fourth argument, as one row. -/
theorem entry_s (c : Dev nD) : V1 m ρ c main_v1 = shapeCast main_v1.ty.shape (m ((c.tc : Thread nD τ).loc main_arg3)) shapeCasts_S1152_S1x1152 := by
  dsimp only [V1, W1, hostOps0]
  after_results

/-- The first call leaves the activations alone. -/
theorem V2_x (c : Dev nD) : V2 m ρ c main_v0 = V1 m ρ c main_v0 := W2_of_ne m ρ c _ (by decide)
/-- The main call finds the transposed difference of the weights. -/
theorem V2_d (c : Dev nD) : V2 m ρ c main_v2_0 = fun i : S1152x3584.Idx =>
    Spec.dd (ws m ρ c (i 1) (i 0)) (ss m ρ c (i 0)) (ks m ρ c (i 1) (i 0)) (vs m ρ c (i 1) (i 0)) :=
  (W2_arr m ρ c 4).trans (dt_final (V1 m ρ) c)

/-- The main call's error is the reference's. -/
theorem err_at (c : Dev nD) (a : Fin 24576) (n : Fin 1152) :
    EA (V2 m ρ) c n a = Spec.err (xs m ρ c) (ws m ρ c) (ks m ρ c) (ss m ρ c) (vs m ρ c) a n := by
  unfold EA Spec.err
  refine Finset.sum_congr (M := EReal) rfl fun d _ => ?_
  unfold DA XA
  rw [V2_x, V2_d]
  exact mul_comm (G := EReal) _ _

/-- The error array after the program. -/
theorem err_array (c : Dev nD) : W4 m ρ c main_v3_0 = fun i : S24576x1152.Idx =>
    Spec.err (xs m ρ c) (ws m ρ c) (ks m ρ c) (ss m ρ c) (vs m ρ c) (i 0) (i 1) := by
  refine (W4_of_ne m ρ c main_v3_0 (by decide)).trans ?_
  refine (W3_arr m ρ c 2).trans ?_
  refine (e_final (V2 m ρ) c).trans ?_
  funext i
  exact err_at m ρ c (i 0) (i 1)

/-- The sum of the squared error over all rows. -/
theorem squares_at (c : Dev nD) (n : Fin 1152) : (∑ a : Fin 24576, EA (V2 m ρ) c n a * EA (V2 m ρ) c n a)
    = ∑ a : Fin 24576, Spec.err (xs m ρ c) (ws m ρ c) (ks m ρ c) (ss m ρ c) (vs m ρ c) a n
        * Spec.err (xs m ρ c) (ws m ρ c) (ks m ρ c) (ss m ρ c) (vs m ρ c) a n :=
  Finset.sum_congr (M := EReal) rfl fun a _ => by rw [err_at]

/-- The entries of the Gram product, the factors exchanged. -/
theorem gram_at (c : Dev nD) (n : Fin 1152) (d : Fin 3584) : (∑ a : Fin 24576, EA (V2 m ρ) c n a * XA (V2 m ρ) c a d)
    = ∑ a : Fin 24576, xs m ρ c a d * Spec.err (xs m ρ c) (ws m ρ c) (ks m ρ c) (ss m ρ c) (vs m ρ c) a n :=
  Finset.sum_congr (M := EReal) rfl fun a _ => by
    rw [err_at, mul_comm (G := EReal)]
    unfold XA
    rw [V2_x]
    rfl

/-- The mean of the squared error after the program. -/
theorem recon_array (c : Dev nD) : W4 m ρ c main_v3_2 = fun i : S1x1152.Idx =>
    Spec.recon (xs m ρ c) (ws m ρ c) (ks m ρ c) (ss m ρ c) (vs m ρ c) (i 1) := by
  refine (W4_of_ne m ρ c main_v3_2 (by decide)).trans ?_
  refine (W3_arr m ρ c 4).trans ?_
  refine (recon_final (V2 m ρ) c).trans ?_
  funext i
  exact congrArg (fun q : EReal => Ideal.div q (Ideal.ofBits .f32 0x46C00000#32)) (squares_at m ρ c (i 1))

/-- The regularizer after the program. -/
theorem reg_array (c : Dev nD) : W4 m ρ c main_v2_1 = fun i : S1x1152.Idx => Spec.reg (vs m ρ c) (i 1) := by
  refine (W4_of_ne m ρ c main_v2_1 (by decide)).trans ?_
  refine (W3_of_ne m ρ c main_v2_1 (by decide)).trans ?_
  refine (W2_arr m ρ c 5).trans ?_
  refine (reg_final (V1 m ρ) c).trans ?_
  funext i
  refine (Spec.reg_blocks (fun d => Spec.rk (vs m ρ c d (i 1))) _ Spec.ofBits_regWeight fun d => Spec.rk_real _).trans ?_
  unfold Spec.reg
  congr 1
  exact Finset.sum_congr (M := EReal) rfl fun d _ => Spec.rk_eq_rr _

/-- The last call finds the Gram product, transposed. -/
theorem V3_g (c : Dev nD) : V3 m ρ c main_v3_1 = fun i : S1152x3584.Idx =>
    ∑ a : Fin 24576, xs m ρ c a (i 1) * Spec.err (xs m ρ c) (ws m ρ c) (ks m ρ c) (ss m ρ c) (vs m ρ c) a (i 0) := by
  refine (W3_arr m ρ c 3).trans ?_
  refine (gt_final (V2 m ρ) c).trans ?_
  funext i
  exact gram_at m ρ c (i 0) (i 1)

/-- It finds the scales of the first call. -/
theorem V3_s (c : Dev nD) : V3 m ρ c main_v1 = V1 m ρ c main_v1 :=
  (W3_of_ne m ρ c main_v1 (by decide)).trans (W2_of m ρ c main_v1 (by decide))
/-- It finds the integer weights of the first call. -/
theorem V3_k (c : Dev nD) : V3 m ρ c main_arg2 = V1 m ρ c main_arg2 :=
  (W3_of_ne m ρ c main_arg2 (by decide)).trans (W2_of m ρ c main_arg2 (by decide))
/-- It finds the rounding variables of the first call. -/
theorem V3_v (c : Dev nD) : V3 m ρ c main_arg4 = V1 m ρ c main_arg4 :=
  (W3_of_ne m ρ c main_arg4 (by decide)).trans (W2_of m ρ c main_arg4 (by decide))

/-- The gradient after the program. -/
theorem grad_array (c : Dev nD) : W4 m ρ c main_v4 = fun i : S3584x1152.Idx =>
    Spec.grad (xs m ρ c) (ws m ρ c) (ks m ρ c) (ss m ρ c) (vs m ρ c) (i 0) (i 1) := by
  refine (W4_arr m ρ c 4).trans ?_
  refine (dv_final (V3 m ρ) c).trans ?_
  funext i
  rw [Spec.dvAt_eq_dvR, V3_g, V3_s, V3_k, V3_v]
  rfl

end Cert.KernelIdeal.Value
end
-- ==== Proof.Value.Reference.lean ====
/- The four arrays the reference's one call writes, entry by entry. -/
module
public import proofs.«01_k».proof.Proof.Gen.ReferenceIdeal.Frame
public import proofs.«01_k».proof.Proof.Spec
public import Idealize.ShloMosaic.Lib.Pipeline.ReadBack
public import Idealize.ShloMosaic.Lib.Claim
@[expose] public section
set_option maxRecDepth 16384
noncomputable section
namespace Cert.ReferenceIdeal.Value
open Cert.ReferenceIdeal Cert.ReferenceIdeal.Gen
open Idealize.ShloMosaic Idealize.ShloMosaic.TcCoe Idealize.SL.Sem
open Idealize.ShloMosaic.Pipeline (Dat)

section
variable (x0 : Vec Ideal S24576x3584 .bf16) (x1 : Vec Ideal S3584x1152 .f32) (x2 : Vec Ideal S3584x1152 .i8) (x3 : Vec Ideal S1x1152 .f32)
  (x4 : Vec Ideal S3584x1152 .f32)

/-- The activations by row and column. -/
def xs (x0 : Vec Ideal S24576x3584 .bf16) : Fin 24576 → Fin 3584 → EReal := fun a b => x0 (ix2 a b)
/-- A matrix of the layer by row and column. -/
def ws (x1 : Vec Ideal S3584x1152 .f32) : Fin 3584 → Fin 1152 → EReal := fun a b => x1 (ix2 a b)
/-- The integer weights by row and column. -/
def ks (x2 : Vec Ideal S3584x1152 .i8) : Fin 3584 → Fin 1152 → BitVec 8 := fun a b => x2 (ix2 a b)
/-- The scales by output channel. -/
def ss (x3 : Vec Ideal S1x1152 .f32) : Fin 1152 → EReal := fun b => x3 (ix2 0 b)

/-- The first result at one entry. -/
theorem out_recon (a : Fin 1) (b : Fin 1152) : out0_5 x0 x1 x2 x3 x4 (ix2 a b) = Spec.recon (xs x0) (ws x1) (ks x2) (ss x3) (ws x4) b := by
  frame_out
  unfold_payloads
  pointwise
  rfl
/-- The second result at one entry. -/
theorem out_reg (a : Fin 1) (b : Fin 1152) : out0_6 x0 x1 x2 x3 x4 (ix2 a b) = Spec.reg (ws x4) b := by
  frame_out
  unfold_payloads
  pointwise
  rfl
/-- The third result at one entry. -/
theorem out_err (a : Fin 24576) (b : Fin 1152) : out0_7 x0 x1 x2 x3 x4 (ix2 a b) = Spec.err (xs x0) (ws x1) (ks x2) (ss x3) (ws x4) a b := by
  frame_out
  unfold_payloads
  pointwise
  rfl
/-- The fourth result at one entry. -/
theorem out_grad (a : Fin 3584) (b : Fin 1152) : out0_8 x0 x1 x2 x3 x4 (ix2 a b) = Spec.grad (xs x0) (ws x1) (ks x2) (ss x3) (ws x4) a b := by
  frame_out
  unfold_payloads
  pointwise
  rfl
end

variable (m : (ℓ : Loc nD τ sig) → Buf (Elt Ideal) ℓ)

/-- The only grid point stages block 0 of each operand. -/
theorem idx : ∀ t : Fin grid0.N, win0_0.index t = ![0, 0] ∧ win0_1.index t = ![0, 0] ∧ win0_2.index t = ![0, 0] ∧ win0_3.index t = ![0, 0]
    ∧ win0_4.index t = ![0, 0] := by
  decide +kernel

/-- A block that is the whole array has the indices of the array (likewise the next four). -/
theorem emb0 (y : S24576x3584.Idx) : ((View.whole main_v0).slice (win0_0.rect t0_0)).emb y = y := by
  blk_ext [idx t0_0]
theorem emb1 (y : S3584x1152.Idx) : ((View.whole main_arg1).slice (win0_1.rect t0_0)).emb y = y := by
  blk_ext [idx t0_0]
theorem emb2 (y : S3584x1152.Idx) : ((View.whole main_arg2).slice (win0_2.rect t0_0)).emb y = y := by
  blk_ext [idx t0_0]
theorem emb3 (y : S1x1152.Idx) : ((View.whole main_v1).slice (win0_3.rect t0_0)).emb y = y := by
  blk_ext [idx t0_0]
theorem emb4 (y : S3584x1152.Idx) : ((View.whole main_arg4).slice (win0_4.rect t0_0)).emb y = y := by
  blk_ext [idx t0_0]
/-- So the block staged is the array itself (likewise the next four). -/
theorem i0 (c : Dev nD) : iblk m c 0 t0_0 = V m c main_v0 := funext fun y => congrArg (V m c main_v0) (emb0 y)
theorem i1 (c : Dev nD) : iblk m c 1 t0_0 = V m c main_arg1 := funext fun y => congrArg (V m c main_arg1) (emb1 y)
theorem i2 (c : Dev nD) : iblk m c 2 t0_0 = V m c main_arg2 := funext fun y => congrArg (V m c main_arg2) (emb2 y)
theorem i3 (c : Dev nD) : iblk m c 3 t0_0 = V m c main_v1 := funext fun y => congrArg (V m c main_v1) (emb3 y)
theorem i4 (c : Dev nD) : iblk m c 4 t0_0 = V m c main_arg4 := funext fun y => congrArg (V m c main_arg4) (emb4 y)

/-- The array of the first result after the call. -/
theorem recon_final (c : Dev nD) : (dats m 0 c).arrAt 5 cfg0.N = out0_5 (V m c main_v0) (V m c main_arg1) (V m c main_arg2) (V m c main_v1) (V m c main_arg4) := by
  refine (dats m 0 c).arrAt_eq_of_after_last 5 t0_0 (by decide +kernel) _ fun j => ?_
  rw [after0_5, i0, i1, i2, i3, i4]
  generalize out0_5 (V m c main_v0) (V m c main_arg1) (V m c main_arg2) (V m c main_v1) (V m c main_arg4) = o
  exact congrArg o (funext fun a => Fin.ext rfl)

/-- The array of the second. -/
theorem reg_final (c : Dev nD) : (dats m 0 c).arrAt 6 cfg0.N = out0_6 (V m c main_v0) (V m c main_arg1) (V m c main_arg2) (V m c main_v1) (V m c main_arg4) := by
  refine (dats m 0 c).arrAt_eq_of_after_last 6 t0_0 (by decide +kernel) _ fun j => ?_
  rw [after0_6, i0, i1, i2, i3, i4]
  generalize out0_6 (V m c main_v0) (V m c main_arg1) (V m c main_arg2) (V m c main_v1) (V m c main_arg4) = o
  exact congrArg o (funext fun a => Fin.ext rfl)

/-- The array of the third. -/
theorem err_final (c : Dev nD) : (dats m 0 c).arrAt 7 cfg0.N = out0_7 (V m c main_v0) (V m c main_arg1) (V m c main_arg2) (V m c main_v1) (V m c main_arg4) := by
  refine (dats m 0 c).arrAt_eq_of_after_last 7 t0_0 (by decide +kernel) _ fun j => ?_
  rw [after0_7, i0, i1, i2, i3, i4]
  generalize out0_7 (V m c main_v0) (V m c main_arg1) (V m c main_arg2) (V m c main_v1) (V m c main_arg4) = o
  exact congrArg o (funext fun a => Fin.ext rfl)

/-- The array of the fourth. -/
theorem grad_final (c : Dev nD) : (dats m 0 c).arrAt 8 cfg0.N = out0_8 (V m c main_v0) (V m c main_arg1) (V m c main_arg2) (V m c main_v1) (V m c main_arg4) := by
  refine (dats m 0 c).arrAt_eq_of_after_last 8 t0_0 (by decide +kernel) _ fun j => ?_
  rw [after0_8, i0, i1, i2, i3, i4]
  generalize out0_8 (V m c main_v0) (V m c main_arg1) (V m c main_arg2) (V m c main_v1) (V m c main_arg4) = o
  exact congrArg o (funext fun a => Fin.ext rfl)

/-! ## The host's reshapes before the call -/

/-- The activations are the first argument, its two leading axes merged. -/
theorem entry_x (c : Dev nD) : V m c main_v0 = shapeCast main_v0.ty.shape (m ((c.tc : Thread nD τ).loc main_arg0)) shapeCasts_S12x2048x3584_S24576x3584 := by
  show StableHlo.after hostOps0 (V0 m c) _ = _
  dsimp only [hostOps0]
  after_results
  rfl

/-- The scales are the fourth argument, as one row. -/
theorem entry_s (c : Dev nD) : V m c main_v1 = shapeCast main_v1.ty.shape (m ((c.tc : Thread nD τ).loc main_arg3)) shapeCasts_S1152_S1x1152 := by
  show StableHlo.after hostOps0 (V0 m c) _ = _
  dsimp only [hostOps0]
  after_results
  rfl

/-! ## The host's reshapes after the call -/

/-- The first result is its array, the row axis dropped. -/
theorem res_recon (c : Dev nD) : Pipeline.afterTail₀ cfgs (dats m) 0 (V0 m) [hostOps1] c main_v3
    = fun i => shapeCast main_v3.ty.shape ((dats m 0 c).arrAt 5 cfg0.N) shapeCasts_S1x1152_S1152 i := by
  unfold Pipeline.afterTail₀
  dsimp only [List.flatten_cons, List.flatten_nil, List.append_nil, hostOps1, List.cons_append, List.nil_append]
  after_results
  rw [show Pipeline.withArrays (cfgs 0).spec c (V0 m c) (fun w => (dats m 0 c).arrAt w (cfgs 0).N) (Proc.devRef .tc main_v2_0)
      = (dats m 0 c).arrAt 5 cfg0.N from Pipeline.withArrays_arr spec0 launch0.win.arr_inj c _ _ 5]

/-- The second result likewise. -/
theorem res_reg (c : Dev nD) : Pipeline.afterTail₀ cfgs (dats m) 0 (V0 m) [hostOps1] c main_v4
    = fun i => shapeCast main_v4.ty.shape ((dats m 0 c).arrAt 6 cfg0.N) shapeCasts_S1x1152_S1152 i := by
  unfold Pipeline.afterTail₀
  dsimp only [List.flatten_cons, List.flatten_nil, List.append_nil, hostOps1, List.cons_append, List.nil_append]
  after_results
  rw [show Pipeline.withArrays (cfgs 0).spec c (V0 m c) (fun w => (dats m 0 c).arrAt w (cfgs 0).N) (Proc.devRef .tc main_v2_1)
      = (dats m 0 c).arrAt 6 cfg0.N from Pipeline.withArrays_arr spec0 launch0.win.arr_inj c _ _ 6]

/-- The third result is its array, the row axis split again. -/
theorem res_err (c : Dev nD) : Pipeline.afterTail₀ cfgs (dats m) 0 (V0 m) [hostOps1] c main_v5
    = fun i => shapeCast main_v5.ty.shape ((dats m 0 c).arrAt 7 cfg0.N) shapeCasts_S24576x1152_S12x2048x1152 i := by
  unfold Pipeline.afterTail₀
  dsimp only [List.flatten_cons, List.flatten_nil, List.append_nil, hostOps1, List.cons_append, List.nil_append]
  after_results
  rw [show Pipeline.withArrays (cfgs 0).spec c (V0 m c) (fun w => (dats m 0 c).arrAt w (cfgs 0).N) (Proc.devRef .tc main_v2_2)
      = (dats m 0 c).arrAt 7 cfg0.N from Pipeline.withArrays_arr spec0 launch0.win.arr_inj c _ _ 7]

end Cert.ReferenceIdeal.Value
end
-- ==== Proof.Value.Algebraic.lean ====
/- The kernel and the reference compute the same four results over the extended reals. -/
module
public import proofs.«01_k».proof.Proof.Value.KernelWhole
public import proofs.«01_k».proof.Proof.Value.Reference
public import proofs.«01_k».proof.Defs
public import Idealize.ShloMosaic.Lib.Claim
@[expose] public section
set_option maxRecDepth 16384
noncomputable section
namespace Cert.Value
open Idealize.ShloMosaic Idealize.ShloMosaic.TcCoe Idealize.SL.Sem

section
variable (m : (ℓ : Loc KernelIdeal.nD KernelIdeal.τ KernelIdeal.sig) → Buf (Elt Ideal) ℓ) (g : Dev KernelIdeal.nD → PrngReg)
  (m' : (ℓ : Loc ReferenceIdeal.nD ReferenceIdeal.τ ReferenceIdeal.sig) → Buf (Elt Ideal) ℓ) (c : Dev KernelIdeal.nD)

/-! ## Both programs' calls find the same operands -/

/-- The activations. -/
theorem x_eq (h : m' ((c.tc : Thread ReferenceIdeal.nD ReferenceIdeal.τ).loc ReferenceIdeal.main_arg0) = m ((c.tc : Thread KernelIdeal.nD KernelIdeal.τ).loc KernelIdeal.main_arg0)) :
    ReferenceIdeal.Value.xs (ReferenceIdeal.Gen.V m' c ReferenceIdeal.main_v0) = KernelIdeal.Value.xs m g c := by
  funext a b
  unfold ReferenceIdeal.Value.xs KernelIdeal.Value.xs
  refine congrFun (?_ : ReferenceIdeal.Gen.V m' c ReferenceIdeal.main_v0 = KernelIdeal.Run.V1 m g c KernelIdeal.main_v0) _
  rw [ReferenceIdeal.Value.entry_x, KernelIdeal.Value.entry_x, h]
  rfl

/-- The scales. -/
theorem s_eq (h : m' ((c.tc : Thread ReferenceIdeal.nD ReferenceIdeal.τ).loc ReferenceIdeal.main_arg3) = m ((c.tc : Thread KernelIdeal.nD KernelIdeal.τ).loc KernelIdeal.main_arg3)) :
    ReferenceIdeal.Value.ss (ReferenceIdeal.Gen.V m' c ReferenceIdeal.main_v1) = KernelIdeal.Value.ss m g c := by
  funext b
  unfold ReferenceIdeal.Value.ss KernelIdeal.Value.ss
  refine congrFun (?_ : ReferenceIdeal.Gen.V m' c ReferenceIdeal.main_v1 = KernelIdeal.Run.V1 m g c KernelIdeal.main_v1) _
  rw [ReferenceIdeal.Value.entry_s, KernelIdeal.Value.entry_s, h]
  rfl

/-- The weights. -/
theorem w_eq (h : m' ((c.tc : Thread ReferenceIdeal.nD ReferenceIdeal.τ).loc ReferenceIdeal.main_arg1) = m ((c.tc : Thread KernelIdeal.nD KernelIdeal.τ).loc KernelIdeal.main_arg1)) :
    ReferenceIdeal.Value.ws (ReferenceIdeal.Gen.V m' c ReferenceIdeal.main_arg1) = KernelIdeal.Value.ws m g c := by
  funext a b
  refine congrFun (?_ : ReferenceIdeal.Gen.V m' c ReferenceIdeal.main_arg1 = KernelIdeal.Run.V1 m g c KernelIdeal.main_arg1) _
  exact (ReferenceIdeal.Gen.V_main_arg1 m' c).trans (h.trans (KernelIdeal.Run.W1_of m g c KernelIdeal.main_arg1 (by decide)).symm)

/-- The integer weights. -/
theorem k_eq (h : m' ((c.tc : Thread ReferenceIdeal.nD ReferenceIdeal.τ).loc ReferenceIdeal.main_arg2) = m ((c.tc : Thread KernelIdeal.nD KernelIdeal.τ).loc KernelIdeal.main_arg2)) :
    ReferenceIdeal.Value.ks (ReferenceIdeal.Gen.V m' c ReferenceIdeal.main_arg2) = KernelIdeal.Value.ks m g c := by
  funext a b
  refine congrFun (?_ : ReferenceIdeal.Gen.V m' c ReferenceIdeal.main_arg2 = KernelIdeal.Run.V1 m g c KernelIdeal.main_arg2) _
  exact (ReferenceIdeal.Gen.V_main_arg2 m' c).trans (h.trans (KernelIdeal.Run.W1_of m g c KernelIdeal.main_arg2 (by decide)).symm)

/-- The rounding variables. -/
theorem v_eq (h : m' ((c.tc : Thread ReferenceIdeal.nD ReferenceIdeal.τ).loc ReferenceIdeal.main_arg4) = m ((c.tc : Thread KernelIdeal.nD KernelIdeal.τ).loc KernelIdeal.main_arg4)) :
    ReferenceIdeal.Value.ws (ReferenceIdeal.Gen.V m' c ReferenceIdeal.main_arg4) = KernelIdeal.Value.vs m g c := by
  funext a b
  refine congrFun (?_ : ReferenceIdeal.Gen.V m' c ReferenceIdeal.main_arg4 = KernelIdeal.Run.V1 m g c KernelIdeal.main_arg4) _
  exact (ReferenceIdeal.Gen.V_main_arg4 m' c).trans (h.trans (KernelIdeal.Run.W1_of m g c KernelIdeal.main_arg4 (by decide)).symm)

variable
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
  (h2 : m' ((c.tc : Thread ReferenceIdeal.nD ReferenceIdeal.τ).loc ReferenceIdeal.main_arg2) = m ((c.tc : Thread KernelIdeal.nD KernelIdeal.τ).loc KernelIdeal.main_arg2))
  (h3 : m' ((c.tc : Thread ReferenceIdeal.nD ReferenceIdeal.τ).loc ReferenceIdeal.main_arg3) = m ((c.tc : Thread KernelIdeal.nD KernelIdeal.τ).loc KernelIdeal.main_arg3))
  (h4 : m' ((c.tc : Thread ReferenceIdeal.nD ReferenceIdeal.τ).loc ReferenceIdeal.main_arg4) = m ((c.tc : Thread KernelIdeal.nD KernelIdeal.τ).loc KernelIdeal.main_arg4))
include h0 h1 h2 h3 h4

/-! ## Both programs' four arrays are equal -/

/-- The mean squared error per output channel. -/
theorem recon_eq : (ReferenceIdeal.Gen.dats m' 0 c).arrAt 5 ReferenceIdeal.cfg0.N = KernelIdeal.Run.W4 m g c KernelIdeal.main_v3_2 := by
  refine (ReferenceIdeal.Value.recon_final m' c).trans (.trans ?_ (KernelIdeal.Value.recon_array m g c).symm)
  funext y
  idx_vars y
  refine (ReferenceIdeal.Value.out_recon _ _ _ _ _ y0 y1).trans ?_
  rw [x_eq m g m' c h0, w_eq m g m' c h1, k_eq m g m' c h2, s_eq m g m' c h3, v_eq m g m' c h4]

/-- The regularizer per output channel. -/
theorem reg_eq : (ReferenceIdeal.Gen.dats m' 0 c).arrAt 6 ReferenceIdeal.cfg0.N = KernelIdeal.Run.W4 m g c KernelIdeal.main_v2_1 := by
  refine (ReferenceIdeal.Value.reg_final m' c).trans (.trans ?_ (KernelIdeal.Value.reg_array m g c).symm)
  funext y
  idx_vars y
  refine (ReferenceIdeal.Value.out_reg _ _ _ _ _ y0 y1).trans ?_
  rw [v_eq m g m' c h4]

/-- The output error. -/
theorem err_eq : (ReferenceIdeal.Gen.dats m' 0 c).arrAt 7 ReferenceIdeal.cfg0.N = KernelIdeal.Run.W4 m g c KernelIdeal.main_v3_0 := by
  refine (ReferenceIdeal.Value.err_final m' c).trans (.trans ?_ (KernelIdeal.Value.err_array m g c).symm)
  funext y
  idx_vars y
  refine (ReferenceIdeal.Value.out_err _ _ _ _ _ y0 y1).trans ?_
  rw [x_eq m g m' c h0, w_eq m g m' c h1, k_eq m g m' c h2, s_eq m g m' c h3, v_eq m g m' c h4]

/-- The gradient of the rounding variable. -/
theorem grad_eq : (ReferenceIdeal.Gen.dats m' 0 c).arrAt 8 ReferenceIdeal.cfg0.N = KernelIdeal.Run.W4 m g c KernelIdeal.main_v4 := by
  refine (ReferenceIdeal.Value.grad_final m' c).trans (.trans ?_ (KernelIdeal.Value.grad_array m g c).symm)
  funext y
  idx_vars y
  refine (ReferenceIdeal.Value.out_grad _ _ _ _ _ y0 y1).trans ?_
  rw [x_eq m g m' c h0, w_eq m g m' c h1, k_eq m g m' c h2, s_eq m g m' c h3, v_eq m g m' c h4]

end

/-- From memories that agree on the arguments, the two programs end with the same four results. -/
theorem algebraic : Cert.algebraic_KernelIdeal_ReferenceIdeal := by
  intro m g m' g' hpre hagree
  refine ⟨fun c => Cert.KernelIdeal.Run.W5 m g c Cert.KernelIdeal.main_v5, fun c => Cert.KernelIdeal.Run.W5 m g c Cert.KernelIdeal.main_v6,
    fun c => Cert.KernelIdeal.Run.W5 m g c Cert.KernelIdeal.main_v7, fun c => Cert.KernelIdeal.Run.W5 m g c Cert.KernelIdeal.main_v4, ?_, ?_⟩
  · exact (θ_run _ _ _).mono (fun r h c =>
      ⟨h.1 c _ (KernelIdeal.Run.mem_uc KernelIdeal.main_v5 (by decide)), h.1 c _ (KernelIdeal.Run.mem_uc KernelIdeal.main_v6 (by decide)),
       h.1 c _ (KernelIdeal.Run.mem_uc KernelIdeal.main_v7 (by decide)), h.1 c _ (KernelIdeal.Run.mem_uc KernelIdeal.main_v4 (by decide)),
       (h.1 c _ (KernelIdeal.Run.mem_uc KernelIdeal.main_arg0 (by decide))).trans (KernelIdeal.Run.W5_main_arg0 m g c),
       (h.1 c _ (KernelIdeal.Run.mem_uc KernelIdeal.main_arg1 (by decide))).trans (KernelIdeal.Run.W5_main_arg1 m g c),
       (h.1 c _ (KernelIdeal.Run.mem_uc KernelIdeal.main_arg2 (by decide))).trans (KernelIdeal.Run.W5_main_arg2 m g c),
       (h.1 c _ (KernelIdeal.Run.mem_uc KernelIdeal.main_arg3 (by decide))).trans (KernelIdeal.Run.W5_main_arg3 m g c),
       (h.1 c _ (KernelIdeal.Run.mem_uc KernelIdeal.main_arg4 (by decide))).trans (KernelIdeal.Run.W5_main_arg4 m g c)⟩)
      (KernelIdeal.Run.run_all m g)
  · run_from Cert.ReferenceIdeal.Gen.run_main m' g'
    all_goals obtain ⟨h0, h1, h2, h3, h4⟩ := hagree c
    · rw [ReferenceIdeal.Value.res_recon, recon_eq m g m' c h0 h1 h2 h3 h4]
      rfl
    · rw [ReferenceIdeal.Value.res_reg, reg_eq m g m' c h0 h1 h2 h3 h4]
      rfl
    · rw [ReferenceIdeal.Value.res_err, err_eq m g m' c h0 h1 h2 h3 h4]
      rfl
    · exact (grad_eq m g m' c h0 h1 h2 h3 h4).trans (KernelIdeal.Run.W5_of m g c KernelIdeal.main_v4 (by decide)).symm
    · exact (ReferenceIdeal.Gen.W_main_arg0 m' _ c).trans h0
    · exact (ReferenceIdeal.Gen.W_main_arg3 m' _ c).trans h3

end Cert.Value
end
-- ==== Proof.lean ====
/- The proof of the certificate's claims. -/
module

public import proofs.«01_k».proof.Defs
public import proofs.«01_k».proof.Proof.Kernel.Whole
public import proofs.«01_k».proof.Proof.KernelIdeal.Whole
public import proofs.«01_k».proof.Proof.Gen.ReferenceIdeal.Frame
public import proofs.«01_k».proof.Proof.Value.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => Cert.Kernel.Run.frame m ρ,
    fun m ρ _ => Cert.KernelIdeal.Run.frame m ρ,
    fun m ρ _ => Cert.ReferenceIdeal.Gen.frame m ρ,
    trivial,
    Cert.Value.algebraic⟩

end Cert.Proof

end
